-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x5120 : Shape := ⟨3, ![2, 4096, 5120]⟩
abbrev S27648x640 : Shape := ⟨2, ![27648, 640]⟩
abbrev S27648x5120 : Shape := ⟨2, ![27648, 5120]⟩
abbrev S27648 : Shape := ⟨1, ![27648]⟩
abbrev S8192x5120 : Shape := ⟨2, ![8192, 5120]⟩
abbrev S1x27648 : Shape := ⟨2, ![1, 27648]⟩
abbrev S8192x27648 : Shape := ⟨2, ![8192, 27648]⟩
abbrev S1024x5120 : Shape := ⟨2, ![1024, 5120]⟩
abbrev S512x640 : Shape := ⟨2, ![512, 640]⟩
abbrev S512x5120 : Shape := ⟨2, ![512, 5120]⟩
abbrev S1x512 : Shape := ⟨2, ![1, 512]⟩
abbrev S1024x512 : Shape := ⟨2, ![1024, 512]⟩
abbrev S32x640 : Shape := ⟨2, ![32, 640]⟩
abbrev S8x640 : Shape := ⟨2, ![8, 640]⟩
abbrev S2x4096x27648 : Shape := ⟨3, ![2, 4096, 27648]⟩

abbrev nBuf : Space → Nat
  | .hbm => 11
  | .vmem => 16
  | .smem => 0
  | _ => 0

abbrev bufTy : (tb : Table) → Fin (tcTables nBuf tb) → BufTy
  | .hbm, ⟨0, _⟩ => ⟨S2x4096x5120, .bf16⟩
  | .hbm, ⟨1, _⟩ => ⟨S27648x640, .i8⟩
  | .hbm, ⟨2, _⟩ => ⟨S27648x640, .i8⟩
  | .hbm, ⟨3, _⟩ => ⟨S27648x5120, .i8⟩
  | .hbm, ⟨4, _⟩ => ⟨S27648, .f32⟩
  | .hbm, ⟨5, _⟩ => ⟨S27648, .f32⟩
  | .hbm, ⟨6, _⟩ => ⟨S8192x5120, .bf16⟩
  | .hbm, ⟨7, _⟩ => ⟨S1x27648, .f32⟩
  | .hbm, ⟨8, _⟩ => ⟨S1x27648, .f32⟩
  | .hbm, ⟨9, _⟩ => ⟨S8192x27648, .bf16⟩
  | .hbm, ⟨10, _⟩ => ⟨S2x4096x27648, .bf16⟩
  | .local _ .vmem, ⟨0, _⟩ => ⟨S1024x5120, .bf16⟩
  | .local _ .vmem, ⟨1, _⟩ => ⟨S1024x5120, .bf16⟩
  | .local _ .vmem, ⟨2, _⟩ => ⟨S512x640, .i8⟩
  | .local _ .vmem, ⟨3, _⟩ => ⟨S512x640, .i8⟩
  | .local _ .vmem, ⟨4, _⟩ => ⟨S512x640, .i8⟩
  | .local _ .vmem, ⟨5, _⟩ => ⟨S512x640, .i8⟩
  | .local _ .vmem, ⟨6, _⟩ => ⟨S512x5120, .i8⟩
  | .local _ .vmem, ⟨7, _⟩ => ⟨S512x5120, .i8⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S512x5120, .bf16⟩
  | .local _ .vmem, ⟨15, _⟩ => ⟨S512x5120, .bf16⟩
  | _, _ => ⟨S2x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![54, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c16_i32 : BitVec 32 := 16#32
  let v20 : BitVec 32 := Scalar.addi c0_i32_13 c16_i32
  let c1_i32 : BitVec 32 := 1#32
  ⟨c0_i32_13, v20, c1_i32⟩
def k0_mult1 (k0_t1 : Fin k0_t1_loop.trips) : BitVec 32 :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  v23
def k0_off1 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v25 : Index := Scalar.indexCast v24
  let c0_17 : Index := 0#32
  ![v25.toNat, 0]
def k0_off2 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v31 : Index := Scalar.indexCast v24
  let c0_19 : Index := 0#32
  ![v31.toNat, 0]
def k0_off3 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v66 : Index := Scalar.indexCast v24
  let c640 : Index := 640#32
  ![v66.toNat, 640]
def k0_off4 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v101 : Index := Scalar.indexCast v24
  let c1280 : Index := 1280#32
  ![v101.toNat, 1280]
def k0_off5 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v136 : Index := Scalar.indexCast v24
  let c1920 : Index := 1920#32
  ![v136.toNat, 1920]
def k0_off6 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v171 : Index := Scalar.indexCast v24
  let c2560 : Index := 2560#32
  ![v171.toNat, 2560]
def k0_off7 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v206 : Index := Scalar.indexCast v24
  let c3200 : Index := 3200#32
  ![v206.toNat, 3200]
def k0_off8 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v241 : Index := Scalar.indexCast v24
  let c3840 : Index := 3840#32
  ![v241.toNat, 3840]
def k0_off9 (k0_t1 : Fin k0_t1_loop.trips) : Fin 2 → Nat :=
  let c0_i32_16 : BitVec 32 := 0#32
  let c0_i32_13 : BitVec 32 := 0#32
  let c1_i32 : BitVec 32 := 1#32
  let arg11 : BitVec 32 := Scf.iv c0_i32_13 c1_i32 k0_t1
  let c1_i32_15 : BitVec 32 := 1#32
  let v21 : BitVec 32 := Scalar.muli arg11 c1_i32_15
  let v22 : BitVec 32 := Scalar.addi c0_i32_16 v21
  let c32_i32 : BitVec 32 := 32#32
  let v23 : BitVec 32 := Scalar.muli v22 c32_i32
  let v24 : BitVec 32 := v23
  let v276 : Index := Scalar.indexCast v24
  let c4480 : Index := 4480#32
  ![v276.toNat, 4480]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x5120 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x4096x5120 : Shape := ⟨3, ![2, 4096, 5120]⟩
abbrev S27648x640 : Shape := ⟨2, ![27648, 640]⟩
abbrev S27648x5120 : Shape := ⟨2, ![27648, 5120]⟩
abbrev S27648 : Shape := ⟨1, ![27648]⟩
abbrev S8 : Shape := ⟨1, ![8]⟩
abbrev S1x8x1 : Shape := ⟨3, ![1, 8, 1]⟩
abbrev S27648x1x640 : Shape := ⟨3, ![27648, 1, 640]⟩
abbrev S27648x8x640 : Shape := ⟨3, ![27648, 8, 640]⟩
abbrev S_ : Shape := ⟨0, ![]⟩
abbrev S2x4096x8x640 : Shape := ⟨4, ![2, 4096, 8, 640]⟩
abbrev S2x4096x27648 : Shape := ⟨3, ![2, 4096, 27648]⟩
abbrev S1x1x27648 : Shape := ⟨3, ![1, 1, 27648]⟩

abbrev nBuf : Space → Nat
  | .hbm => 58
  | .vmem => 0
  | .smem => 0
  | _ => 0

abbrev bufTy : (tb : Table) → Fin (tcTables nBuf tb) → BufTy
  | .hbm, ⟨0, _⟩ => ⟨S2x4096x5120, .bf16⟩
  | .hbm, ⟨1, _⟩ => ⟨S27648x640, .i8⟩
  | .hbm, ⟨2, _⟩ => ⟨S27648x640, .i8⟩
  | .hbm, ⟨3, _⟩ => ⟨S27648x5120, .i8⟩
  | .hbm, ⟨4, _⟩ => ⟨S27648, .f32⟩
  | .hbm, ⟨5, _⟩ => ⟨S27648, .f32⟩
  | .hbm, ⟨6, _⟩ => ⟨S8, .i32⟩
  | .hbm, ⟨7, _⟩ => ⟨S1x8x1, .i32⟩
  | .hbm, ⟨8, _⟩ => ⟨S27648x640, .i32⟩
  | .hbm, ⟨9, _⟩ => ⟨S27648x1x640, .i32⟩
  | .hbm, ⟨10, _⟩ => ⟨S27648x8x640, .i32⟩
  | .hbm, ⟨11, _⟩ => ⟨S27648x8x640, .i32⟩
  | .hbm, ⟨12, _⟩ => ⟨S27648x8x640, .i32⟩
  | .hbm, ⟨13, _⟩ => ⟨S_, .i32⟩
  | .hbm, ⟨14, _⟩ => ⟨S27648x8x640, .i32⟩
  | .hbm, ⟨15, _⟩ => ⟨S27648x8x640, .i32⟩
  | .hbm, ⟨16, _⟩ => ⟨S8, .i32⟩
  | .hbm, ⟨17, _⟩ => ⟨S1x8x1, .i32⟩
  | .hbm, ⟨18, _⟩ => ⟨S27648x640, .i32⟩
  | .hbm, ⟨19, _⟩ => ⟨S27648x1x640, .i32⟩
  | .hbm, ⟨20, _⟩ => ⟨S27648x8x640, .i32⟩
  | .hbm, ⟨21, _⟩ => ⟨S27648x8x640, .i32⟩
  | .hbm, ⟨22, _⟩ => ⟨S27648x8x640, .i32⟩
  | .hbm, ⟨23, _⟩ => ⟨S_, .i32⟩
  | .hbm, ⟨24, _⟩ => ⟨S27648x8x640, .i32⟩
  | .hbm, ⟨25, _⟩ => ⟨S27648x8x640, .i32⟩
  | .hbm, ⟨26, _⟩ => ⟨S27648x8x640, .i8⟩
  | .hbm, ⟨27, _⟩ => ⟨S_, .i32⟩
  | .hbm, ⟨28, _⟩ => ⟨S27648x8x640, .i32⟩
  | .hbm, ⟨29, _⟩ => ⟨S27648x8x640, .i1⟩
  | .hbm, ⟨30, _⟩ => ⟨S_, .i8⟩
  | .hbm, ⟨31, _⟩ => ⟨S27648x8x640, .i8⟩
  | .hbm, ⟨32, _⟩ => ⟨S27648x8x640, .i8⟩
  | .hbm, ⟨33, _⟩ => ⟨S27648x8x640, .i32⟩
  | .hbm, ⟨34, _⟩ => ⟨S27648x8x640, .bf16⟩
  | .hbm, ⟨35, _⟩ => ⟨S_, .i32⟩
  | .hbm, ⟨36, _⟩ => ⟨S27648x8x640, .i32⟩
  | .hbm, ⟨37, _⟩ => ⟨S27648x8x640, .i1⟩
  | .hbm, ⟨38, _⟩ => ⟨S_, .f32⟩
  | .hbm, ⟨39, _⟩ => ⟨S_, .f32⟩
  | .hbm, ⟨40, _⟩ => ⟨S27648x8x640, .f32⟩
  | .hbm, ⟨41, _⟩ => ⟨S27648x8x640, .f32⟩
  | .hbm, ⟨42, _⟩ => ⟨S27648x8x640, .f32⟩
  | .hbm, ⟨43, _⟩ => ⟨S_, .f32⟩
  | .hbm, ⟨44, _⟩ => ⟨S27648x8x640, .f32⟩
  | .hbm, ⟨45, _⟩ => ⟨S27648x8x640, .f32⟩
  | .hbm, ⟨46, _⟩ => ⟨S27648x8x640, .bf16⟩
  | .hbm, ⟨47, _⟩ => ⟨S2x4096x8x640, .bf16⟩
  | .hbm, ⟨48, _⟩ => ⟨S2x4096x27648, .f32⟩
  | .hbm, ⟨49, _⟩ => ⟨S2x4096x27648, .f32⟩
  | .hbm, ⟨50, _⟩ => ⟨S1x1x27648, .f32⟩
  | .hbm, ⟨51, _⟩ => ⟨S2x4096x27648, .f32⟩
  | .hbm, ⟨52, _⟩ => ⟨S2x4096x27648, .f32⟩
  | .hbm, ⟨53, _⟩ => ⟨S1x1x27648, .f32⟩
  | .hbm, ⟨54, _⟩ => ⟨S2x4096x27648, .f32⟩
  | .hbm, ⟨55, _⟩ => ⟨S2x4096x27648, .f32⟩
  | .hbm, ⟨56, _⟩ => ⟨S2x4096x27648, .f32⟩
  | .hbm, ⟨57, _⟩ => ⟨S2x4096x27648, .bf16⟩
  | _, _ => ⟨S2x4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_v26 : Ref sig .tc := ⟨.hbm, 42, rfl⟩
abbrev main_cst_5 : Ref sig .tc := ⟨.hbm, 43, rfl⟩
abbrev main_call2_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.Words.lean ====
/-  The bit planes of a packed word.

    The kernel reads four rows of packed bytes as one 32-bit word, shifts the word right by a plane number, keeps the
    lowest bit of each byte, and turns that bit into a whole byte of ones with a shift and a subtraction. This module says
    what each byte of the result is, for words and then for the vectors the kernel stores. -/
module

public import proofs.«01_k».proof.Proof.Gen.KernelIdeal.Skeleton
public import Idealize.ShloMosaic.Lib.BitcastFour
public import Idealize.ShloMosaic.Lib.Pointwise

@[expose] public section

set_option maxRecDepth 16384

noncomputable section

namespace Cert.Planes

open Idealize.ShloMosaic Cert.KernelIdeal Cert.KernelIdeal.Gen

/-! ## One word -/

/-- The lowest bit of each byte of `w >>> p`. -/
def bits (p : Nat) (w : BitVec 32) : BitVec 32 := (w >>> p) &&& 0x01010101#32

/-- A byte of ones for each byte of `w >>> p` whose lowest bit is set. -/
def mask (p : Nat) (w : BitVec 32) : BitVec 32 := (bits p w <<< 8) - bits p w

/-- The word whose four bytes are the bits `a`, `b`, `c`, `d`, lowest byte first. -/
def four (a b c d : Bool) : BitVec 32 :=
  (if a then 1#32 else 0#32) ||| (if b then 0x100#32 else 0#32) ||| (if c then 0x10000#32 else 0#32)
    ||| (if d then 0x1000000#32 else 0#32)

/-- `bits` written out: bit `p` of each byte of `w`, taken up to the byte above. -/
theorem bits_eq_four (p : Nat) (w : BitVec 32) :
    bits p w = four (w.getLsbD p) (w.getLsbD (p + 8)) (w.getLsbD (p + 16)) (w.getLsbD (p + 24)) := by
  apply BitVec.eq_of_getLsbD_eq
  intro i hi
  unfold bits four
  rw [BitVec.getLsbD_and, BitVec.getLsbD_ushiftRight]
  generalize ha : w.getLsbD p = a
  generalize hb : w.getLsbD (p + 8) = b
  generalize hc : w.getLsbD (p + 16) = c
  generalize hd : w.getLsbD (p + 24) = d
  have key : ∀ (j : Fin 32) (a b c d : Bool),
      (if j.val = 0 then a else if j.val = 8 then b else if j.val = 16 then c else if j.val = 24 then d else false)
        = (four a b c d).getLsbD j.val := by decide +kernel
  have kz : ∀ j : Fin 32, (0x01010101#32).getLsbD j.val
      = (decide (j.val = 0) || decide (j.val = 8) || decide (j.val = 16) || decide (j.val = 24)) := by decide +kernel
  have k1 := key ⟨i, hi⟩ a b c d
  have k2 := kz ⟨i, hi⟩
  unfold four at k1
  rw [← k1, k2]
  subst ha hb hc hd
  dsimp only
  by_cases h0 : i = 0
  · subst h0; simp
  by_cases h8 : i = 8
  · subst h8; simp
  by_cases h16 : i = 16
  · subst h16; simp
  by_cases h24 : i = 24
  · subst h24; simp
  simp [h0, h8, h16, h24]

/-- Shifting the four bits up by a byte and subtracting fills each byte with its bit. -/
theorem four_fill : ∀ (a b c d : Bool) (j : Fin 32),
    ((four a b c d <<< 8) - four a b c d).getLsbD j.val
      = (if j.val < 8 then a else if j.val < 16 then b else if j.val < 24 then c else d) := by decide +kernel

/-- Each bit of byte `b` of the mask is bit `p` of byte `b` of the word. -/
theorem mask_getLsbD (p : Nat) (w : BitVec 32) (b q : Nat) (hb : b < 4) (hq : q < 8) :
    (mask p w).getLsbD (8 * b + q) = w.getLsbD (p + 8 * b) := by
  unfold mask
  rw [bits_eq_four]
  have h := four_fill (w.getLsbD p) (w.getLsbD (p + 8)) (w.getLsbD (p + 16)) (w.getLsbD (p + 24)) ⟨8 * b + q, by omega⟩
  rw [h]
  dsimp only
  have hc : b = 0 ∨ b = 1 ∨ b = 2 ∨ b = 3 := by omega
  rcases hc with rfl | rfl | rfl | rfl
  · rw [if_pos (by omega), Nat.mul_zero, Nat.add_zero]
  · rw [if_neg (by omega), if_pos (by omega)]
  · rw [if_neg (by omega), if_neg (by omega), if_pos (by omega)]
  · rw [if_neg (by omega), if_neg (by omega), if_neg (by omega)]

/-! ## The code byte and the sign byte at one position -/

/-- The code byte: the code `q` where bit `p` of the mask byte `m` is set, zero elsewhere. -/
def codeByte (p : Nat) (m q : BitVec 8) : BitVec 8 := if m.getLsbD p then q else 0#8

/-- The sign byte: zero where bit `p` of the mask byte is set; elsewhere 1 or −1 by bit `p` of the sign byte `g`. -/
def signByte (p : Nat) (m g : BitVec 8) : BitVec 8 :=
  if m.getLsbD p then 0#8 else if g.getLsbD p then 1#8 else 255#8

/-! ## The vectors the kernel stores -/

/-- `mask` on a vector of words, in the kernel's operations. -/
def maskV (p : BitVec 32) (w : IVec S8x640 32) : IVec S8x640 32 :=
  subi (shli (andi (shrui w (broadcast S8x640 p)) (broadcast S8x640 16843009#32)) (broadcast S8x640 8#32))
    (andi (shrui w (broadcast S8x640 p)) (broadcast S8x640 16843009#32))

theorem maskV_apply (p : BitVec 32) (hp : p.toNat < 8) (w : IVec S8x640 32) (i : S8x640.Idx) :
    maskV p w i = mask p.toNat (w i) := by
  show IntOp.subi (IntOp.shli .vector (IntOp.andi (IntOp.shrui .vector (w i) p) 16843009#32) 8#32)
    (IntOp.andi (IntOp.shrui .vector (w i) p) 16843009#32) = _
  have e : IntOp.shrui .vector (w i) p = w i >>> p.toNat := by
    unfold IntOp.shrui; rw [if_pos (by omega)]; rfl
  rw [e]
  rfl

/-- The words of a tile of bytes. -/
abbrev words (v : IVec S32x640 8) : IVec S8x640 32 := bitcast S8x640 32 v bitcasts_S32x640_w8_S8x640_w32

/-- The bytes of a tile of words. -/
abbrev bytes (w : IVec S8x640 32) : IVec S32x640 8 := bitcast S32x640 8 w bitcasts_S8x640_w32_S32x640_w8

/-- The word row a byte row lies in. -/
def wordRow (i : S32x640.Idx) : S8x640.Idx := ValueIdx.ix2 ⟨(i 0).val / 4, by have : (i 0).val < 32 := (i 0).isLt; omega⟩ ⟨(i 1).val, (i 1).isLt⟩

/-- Bit `q` of a byte of a tile of words. -/
theorem bytes_getLsbD (w : IVec S8x640 32) (i : S32x640.Idx) (q : Nat) (hq : q < 8) :
    (bytes w i).getLsbD q = (w (wordRow i)).getLsbD (8 * ((i 0).val % 4) + q) := by
  unfold bytes
  rw [bitcast_getLsbD w bitcasts_S8x640_w32_S32x640_w8 i q hq (by decide)]
  have hrow : S32x640.row i = (i 0).val := rfl
  have e1 : (S32x640.row i * 8 + q) / 32 = (i 0).val / 4 := by rw [hrow]; omega
  have e2 : (S32x640.row i * 8 + q) % 32 = 8 * ((i 0).val % 4) + q := by rw [hrow]; omega
  rw [e2]
  congr 2
  funext c
  match c with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

/-- Bit `q` of byte `b` of the word at a byte's word row. -/
theorem words_getLsbD (v : IVec S32x640 8) (i : S32x640.Idx) (q : Nat) (hq : q < 8) :
    (words v (wordRow i)).getLsbD (8 * ((i 0).val % 4) + q) = (v i).getLsbD q := by
  have h0 : (i 0).val < 32 := (i 0).isLt
  rw [show i = ValueIdx.ix2 (i 0) (i 1) from ValueIdx.eq_ix2 i]
  unfold words wordRow
  rw [bitcast_8_32_getLsbD_ix2 (R := 32) (r := 8) (n := 640) v bitcasts_S32x640_w8_S8x640_w32 _ _ _ (by omega) (i 0)
    (by show (i 0).val = 4 * ((i 0).val / 4) + (8 * ((i 0).val % 4) + q) / 8; omega)]
  congr 1
  show (8 * ((i 0).val % 4) + q) % 8 = q
  omega

/-- The mask of a tile of bytes, read at bit `q` of a byte: bit `p` of that byte. -/
theorem mask_words (p : BitVec 32) (hp : p.toNat < 8) (v : IVec S32x640 8) (i : S32x640.Idx) (q : Nat) (hq : q < 8) :
    (maskV p (words v) (wordRow i)).getLsbD (8 * ((i 0).val % 4) + q) = (v i).getLsbD p.toNat := by
  rw [maskV_apply p hp, mask_getLsbD _ _ _ _ (by omega) hq, Nat.add_comm, words_getLsbD v i _ hp]

/-- The code tile of plane `p`, in the kernel's operations: mask the code bytes, four at a time. -/
def codeTile (p : BitVec 32) (m q : IVec S32x640 8) : IVec S32x640 8 :=
  bytes (andi (maskV p (words m)) (words q))

/-- The sign tile of plane `p`, in the kernel's operations. -/
def signTile (p : BitVec 32) (m g : IVec S32x640 8) : IVec S32x640 8 :=
  bytes (andi (xori (maskV p (words m)) (constantI S8x640 32 4294967295#32))
    (ori (xori (maskV p (words g)) (constantI S8x640 32 4294967295#32)) (broadcast S8x640 16843009#32)))

/-- The code tile holds the code bytes of its plane. -/
theorem codeTile_apply (p : BitVec 32) (hp : p.toNat < 8) (m q : IVec S32x640 8) (i : S32x640.Idx) :
    codeTile p m q i = codeByte p.toNat (m i) (q i) := by
  apply BitVec.eq_of_getLsbD_eq
  intro j hj
  unfold codeTile
  rw [bytes_getLsbD _ _ _ hj]
  show ((maskV p (words m) (wordRow i)) &&& (words q (wordRow i))).getLsbD _ = _
  rw [BitVec.getLsbD_and, mask_words p hp m i j hj, words_getLsbD q i j hj]
  unfold codeByte
  cases (m i).getLsbD p.toNat <;> simp

/-- The sign tile holds the sign bytes of its plane. -/
theorem signTile_apply (p : BitVec 32) (hp : p.toNat < 8) (m g : IVec S32x640 8) (i : S32x640.Idx) :
    signTile p m g i = signByte p.toNat (m i) (g i) := by
  apply BitVec.eq_of_getLsbD_eq
  intro j hj
  have hb : 8 * ((i 0).val % 4) + j < 32 := by omega
  unfold signTile
  rw [bytes_getLsbD _ _ _ hj]
  show (((maskV p (words m) (wordRow i)) ^^^ 4294967295#32)
    &&& (((maskV p (words g) (wordRow i)) ^^^ 4294967295#32) ||| 16843009#32)).getLsbD _ = _
  have hones : ∀ n : Fin 32, (4294967295#32).getLsbD n.val = true := by decide +kernel
  have hlow : ∀ (b : Fin 4) (n : Fin 8), (16843009#32).getLsbD (8 * b.val + n.val) = decide (n.val = 0) := by decide +kernel
  rw [BitVec.getLsbD_and, BitVec.getLsbD_or, BitVec.getLsbD_xor, BitVec.getLsbD_xor, mask_words p hp m i j hj,
    mask_words p hp g i j hj, hones ⟨_, hb⟩, hlow ⟨(i 0).val % 4, by omega⟩ ⟨j, hj⟩]
  have h1 : ∀ n : Fin 8, (1#8).getLsbD n.val = decide (n.val = 0) := by decide +kernel
  have h255 : ∀ n : Fin 8, (255#8).getLsbD n.val = true := by decide +kernel
  unfold signByte
  cases (m i).getLsbD p.toNat
  · cases (g i).getLsbD p.toNat
    · simpa using (h255 ⟨j, hj⟩).symm
    · simpa using (h1 ⟨j, hj⟩).symm
  · simp

end Cert.Planes

end
-- ==== Proof.Trip.lean ====
/-  What one trip of the decoding loop, and the whole loop, leave in the two operand buffers.

    A trip decodes 32 rows of a weight block, one plane of 640 columns at a time. Every tile it stores agrees with one
    function of the block's packed bytes (`codeOp` for the code operand, `signOp` for the sign operand), so the
    buffers read as those functions wherever a tile has been stored. -/
module

public import proofs.«01_k».proof.Proof.Words
public import proofs.«01_k».proof.Proof.Gen.KernelIdeal.Frame

@[expose] public section

set_option maxRecDepth 16384

noncomputable section

namespace Cert.Planes

open Idealize.ShloMosaic Idealize.ShloMosaic.TcCoe Cert.KernelIdeal Cert.KernelIdeal.Gen

variable {F : FTy → Type} [FloatOps F]

/-- Where the mask and sign bits of column `y 1` of a row lie: column `y 1 % 640` of that row. -/
def packedIdx (y : S512x5120.Idx) : S512x640.Idx :=
  ValueIdx.ix2 ⟨(y 0).val, (y 0).isLt⟩ ⟨(y 1).val % 640, Nat.mod_lt _ (by omega)⟩

/-- The code operand of a weight block: at row `r`, column `640 p + c`, the code where bit `p` of the mask byte at
    `(r, c)` is set and zero elsewhere. -/
def codeOp (x1 : Vec F S512x640 .i8) (x3 : Vec F S512x5120 .i8) : Vec F S512x5120 .bf16 :=
  fun y => FloatOps.sitofp .bf16 (codeByte ((y 1).val / 640) (x1 (packedIdx y)) (x3 y))

/-- The sign operand of a weight block: at row `r`, column `640 p + c`, zero where bit `p` of the mask byte at `(r, c)`
    is set, and 1 or −1 elsewhere by bit `p` of the sign byte there. -/
def signOp (x1 : Vec F S512x640 .i8) (x2 : Vec F S512x640 .i8) : Vec F S512x5120 .bf16 :=
  fun y => FloatOps.sitofp .bf16 (signByte ((y 1).val / 640) (x1 (packedIdx y)) (x2 (packedIdx y)))

/-! ## One stored tile -/

section Tile

variable (p k : Nat) (hp : p < 8) {off1 off : Fin 2 → Nat} (h1 : off1 = ![32 * k, 0]) (h : off = ![32 * k, 640 * p])
  (inb1 : ∀ a, off1 a + (![32, 640] : Fin 2 → Nat) a ≤ S512x640.size a)
  (inb : ∀ a, off a + (![32, 640] : Fin 2 → Nat) a ≤ S512x5120.size a) (x : S32x640.Idx)

include h in
/-- The plane of a column in a tile of plane `p`. -/
theorem tile_plane : ((Rect.unit (s := S512x5120) off ![32, 640] inb).emb x 1).val / 640 = p := by
  subst h
  have hx : (x 1).val < 640 := (x 1).isLt
  show (640 * p + 1 * (x 1).val) / 640 = p
  omega

include h1 h in
/-- The packed bits of a place in a tile of plane `p` are those at the same place of the packed tile. -/
theorem tile_packedIdx : packedIdx ((Rect.unit (s := S512x5120) off ![32, 640] inb).emb x)
    = (Rect.unit (s := S512x640) off1 ![32, 640] inb1).emb x := by
  subst h1 h
  have hx : (x 1).val < 640 := (x 1).isLt
  funext a
  match a with
  | ⟨0, _⟩ => exact Fin.ext rfl
  | ⟨1, _⟩ => exact Fin.ext (by show (640 * p + 1 * (x 1).val) % 640 = 0 + 1 * (x 1).val; omega)

include hp h1 h in
/-- A code tile of plane `p` agrees with `codeOp`. -/
theorem code_tile (x1 : Vec F S512x640 .i8) (x3 : Vec F S512x5120 .i8) :
    sitofp (F := F) .bf16 (codeTile (BitVec.ofNat 32 p) (fun y => x1 ((Rect.unit (s := S512x640) off1 ![32, 640] inb1).emb y))
        (fun y => x3 ((Rect.unit (s := S512x5120) off ![32, 640] inb).emb y))) x
      = codeOp x1 x3 ((Rect.unit (s := S512x5120) off ![32, 640] inb).emb x) := by
  have e : (BitVec.ofNat 32 p).toNat = p := by rw [BitVec.toNat_ofNat]; omega
  unfold codeOp
  rw [tile_plane p k h inb x, tile_packedIdx p k h1 h inb1 inb x]
  show FloatOps.sitofp .bf16 (codeTile _ _ _ x) = _
  rw [codeTile_apply _ (by omega), e]

include hp h1 h in
/-- A sign tile of plane `p` agrees with `signOp`. -/
theorem sign_tile (x1 x2 : Vec F S512x640 .i8) :
    sitofp (F := F) .bf16 (signTile (BitVec.ofNat 32 p) (fun y => x1 ((Rect.unit (s := S512x640) off1 ![32, 640] inb1).emb y))
        (fun y => x2 ((Rect.unit (s := S512x640) off1 ![32, 640] inb1).emb y))) x
      = signOp x1 x2 ((Rect.unit (s := S512x5120) off ![32, 640] inb).emb x) := by
  have e : (BitVec.ofNat 32 p).toNat = p := by rw [BitVec.toNat_ofNat]; omega
  unfold signOp
  rw [tile_plane p k h inb x, tile_packedIdx p k h1 h inb1 inb x]
  show FloatOps.sitofp .bf16 (signTile _ _ _ x) = _
  rw [signTile_apply _ (by omega), e]

end Tile

/-! ## The stored payloads are the tiles -/

section Payloads

variable (m g q : Vec F S32x640 .i8)

/-- What the kernel stores into the first operand buffer for plane 0: the code tile of that plane. -/
theorem pay_code0 : k0_pay9 (F := F) m q = sitofp (F := F) .bf16 (codeTile 0#32 m q) := shapeCast_self _ _

/-- What the kernel stores into the second operand buffer for plane 0: the sign tile of that plane. -/
theorem pay_sign0 : k0_pay10 (F := F) (k0_pay8 m g) = sitofp (F := F) .bf16 (signTile 0#32 m g) := shapeCast_self _ _

/-- What the kernel stores into the first operand buffer for plane 1: the code tile of that plane. -/
theorem pay_code1 : k0_pay12 (F := F) (k0_pay5 m) q = sitofp (F := F) .bf16 (codeTile 1#32 m q) := shapeCast_self _ _

/-- What the kernel stores into the second operand buffer for plane 1: the sign tile of that plane. -/
theorem pay_sign1 : k0_pay13 (F := F) (k0_pay5 m) (k0_pay6 g) = sitofp (F := F) .bf16 (signTile 1#32 m g) := shapeCast_self _ _

/-- What the kernel stores into the first operand buffer for plane 2: the code tile of that plane. -/
theorem pay_code2 : k0_pay17 (F := F) (k0_pay5 m) (k0_pay14 q) k0_pay15 = sitofp (F := F) .bf16 (codeTile 2#32 m q) := shapeCast_self _ _

/-- What the kernel stores into the second operand buffer for plane 2: the sign tile of that plane. -/
theorem pay_sign2 : k0_pay18 (F := F) (k0_pay5 m) (k0_pay6 g) k0_pay15 = sitofp (F := F) .bf16 (signTile 2#32 m g) := shapeCast_self _ _

/-- What the kernel stores into the first operand buffer for plane 3: the code tile of that plane. -/
theorem pay_code3 : k0_pay22 (F := F) (k0_pay19 q) (k0_pay20 (k0_pay5 m)) = sitofp (F := F) .bf16 (codeTile 3#32 m q) := shapeCast_self _ _

/-- What the kernel stores into the second operand buffer for plane 3: the sign tile of that plane. -/
theorem pay_sign3 : k0_pay23 (F := F) (k0_pay20 (k0_pay5 m)) (k0_pay21 (k0_pay6 g)) = sitofp (F := F) .bf16 (signTile 3#32 m g) := shapeCast_self _ _

/-- What the kernel stores into the first operand buffer for plane 4: the code tile of that plane. -/
theorem pay_code4 : k0_pay28 (F := F) (k0_pay26 (F := F) (k0_pay5 m) q) = sitofp (F := F) .bf16 (codeTile 4#32 m q) := shapeCast_self _ _

/-- What the kernel stores into the second operand buffer for plane 4: the sign tile of that plane. -/
theorem pay_sign4 : k0_pay29 (F := F) (k0_pay25 (k0_pay6 g)) (k0_pay27 (k0_pay5 m)) = sitofp (F := F) .bf16 (signTile 4#32 m g) := shapeCast_self _ _

/-- What the kernel stores into the first operand buffer for plane 5: the code tile of that plane. -/
theorem pay_code5 : k0_pay33 (F := F) (k0_pay31 (k0_pay5 m) q) = sitofp (F := F) .bf16 (codeTile 5#32 m q) := shapeCast_self _ _

/-- What the kernel stores into the second operand buffer for plane 5: the sign tile of that plane. -/
theorem pay_sign5 : k0_pay34 (F := F) (k0_pay32 (k0_pay5 m) (k0_pay6 g)) = sitofp (F := F) .bf16 (signTile 5#32 m g) := shapeCast_self _ _

/-- What the kernel stores into the first operand buffer for plane 6: the code tile of that plane. -/
theorem pay_code6 : k0_pay36 (F := F) (k0_pay5 m) q = sitofp (F := F) .bf16 (codeTile 6#32 m q) := shapeCast_self _ _

/-- What the kernel stores into the second operand buffer for plane 6: the sign tile of that plane. -/
theorem pay_sign6 : k0_pay37 (F := F) (k0_pay5 m) (k0_pay6 g) = sitofp (F := F) .bf16 (signTile 6#32 m g) := shapeCast_self _ _

/-- What the kernel stores into the first operand buffer for plane 7: the code tile of that plane. -/
theorem pay_code7 : k0_pay2 (F := F) (k0_pay5 m) q = sitofp (F := F) .bf16 (codeTile 7#32 m q) := shapeCast_self _ _

/-- What the kernel stores into the second operand buffer for plane 7: the sign tile of that plane. -/
theorem pay_sign7 : k0_pay3 (F := F) (k0_pay5 m) (k0_pay6 g) = sitofp (F := F) .bf16 (signTile 7#32 m g) := shapeCast_self _ _

end Payloads

/-! ## One trip, and the loop -/

section Loop

variable (𝒱 : Variants) (c : Dev nD) (bd : Option 𝒱.V) (i : grid0.Coords)
  (arg2 : Memref sig .tc .vmem S1024x5120 .bf16) (harg2 : arg2.IsWhole) (arg3 : Memref sig .tc .vmem S512x640 .i8)
  (harg3 : arg3.IsWhole) (arg4 : Memref sig .tc .vmem S512x640 .i8) (harg4 : arg4.IsWhole)
  (arg5 : Memref sig .tc .vmem S512x5120 .i8) (harg5 : arg5.IsWhole) (arg6 : Memref sig .tc .vmem S1x512 .f32)
  (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S512x5120 .bf16)
  (harg9 : arg9.IsWhole) (arg10 : Memref sig .tc .vmem S512x5120 .bf16) (harg10 : arg10.IsWhole) (hc : k0_cond1 i = 1#1)
  (X3 : BufTy.Contents (Elt F) arg3.view.ty) (X4 : BufTy.Contents (Elt F) arg4.view.ty)
  (X5 : BufTy.Contents (Elt F) arg5.view.ty)

/-- Every tile a trip stores into the first operand buffer agrees with `codeOp`. -/
theorem trip_code (k : Fin k0_t1_loop.trips) :
    ∀ q ∈ (trip_k0_t1 (F := F) 𝒱 c bd i arg2 harg2 arg3 harg3 arg4 harg4 arg5 harg5 arg6 harg6 arg7 harg7 arg8 harg8 arg9
        harg9 arg10 harg10 hc X3 X4 X5 k).1, ∀ x : q.1.shape.Idx,
      q.2 x = codeOp (F := F) (arg3.view.read (Elt F) X3) (arg5.view.read (Elt F) X5) (q.1.emb x) := by
  unfold trip_k0_t1
  dsimp only
  intro q hq
  simp only [List.mem_cons, List.not_mem_nil, or_false] at hq
  rcases hq with rfl | rfl | rfl | rfl | rfl | rfl | rfl | rfl <;> intro x
  · have h := code_tile (F := F) 7 k.val (by omega) (k0_off1_eq k) (k0_off9_eq k) (k0_off1_inb i k hc) (k0_off9_inb i k hc) x
      (arg3.view.read (Elt F) X3) (arg5.view.read (Elt F) X5)
    exact (congrFun (pay_code7 _ _) x).trans h
  · have h := code_tile (F := F) 6 k.val (by omega) (k0_off1_eq k) (k0_off8_eq k) (k0_off1_inb i k hc) (k0_off8_inb i k hc) x
      (arg3.view.read (Elt F) X3) (arg5.view.read (Elt F) X5)
    exact (congrFun (pay_code6 _ _) x).trans h
  · have h := code_tile (F := F) 5 k.val (by omega) (k0_off1_eq k) (k0_off7_eq k) (k0_off1_inb i k hc) (k0_off7_inb i k hc) x
      (arg3.view.read (Elt F) X3) (arg5.view.read (Elt F) X5)
    exact (congrFun (pay_code5 _ _) x).trans h
  · have h := code_tile (F := F) 4 k.val (by omega) (k0_off1_eq k) (k0_off6_eq k) (k0_off1_inb i k hc) (k0_off6_inb i k hc) x
      (arg3.view.read (Elt F) X3) (arg5.view.read (Elt F) X5)
    exact (congrFun (pay_code4 _ _) x).trans h
  · have h := code_tile (F := F) 3 k.val (by omega) (k0_off1_eq k) (k0_off5_eq k) (k0_off1_inb i k hc) (k0_off5_inb i k hc) x
      (arg3.view.read (Elt F) X3) (arg5.view.read (Elt F) X5)
    exact (congrFun (pay_code3 _ _) x).trans h
  · have h := code_tile (F := F) 2 k.val (by omega) (k0_off1_eq k) (k0_off4_eq k) (k0_off1_inb i k hc) (k0_off4_inb i k hc) x
      (arg3.view.read (Elt F) X3) (arg5.view.read (Elt F) X5)
    exact (congrFun (pay_code2 _ _) x).trans h
  · have h := code_tile (F := F) 1 k.val (by omega) (k0_off1_eq k) (k0_off3_eq k) (k0_off1_inb i k hc) (k0_off3_inb i k hc) x
      (arg3.view.read (Elt F) X3) (arg5.view.read (Elt F) X5)
    exact (congrFun (pay_code1 _ _) x).trans h
  · have h := code_tile (F := F) 0 k.val (by omega) (k0_off1_eq k) (k0_off2_eq k) (k0_off1_inb i k hc) (k0_off2_inb i k hc) x
      (arg3.view.read (Elt F) X3) (arg5.view.read (Elt F) X5)
    exact (congrFun (pay_code0 _ _) x).trans h

/-- Every tile a trip stores into the second operand buffer agrees with `signOp`. -/
theorem trip_sign (k : Fin k0_t1_loop.trips) :
    ∀ q ∈ (trip_k0_t1 (F := F) 𝒱 c bd i arg2 harg2 arg3 harg3 arg4 harg4 arg5 harg5 arg6 harg6 arg7 harg7 arg8 harg8 arg9
        harg9 arg10 harg10 hc X3 X4 X5 k).2.1, ∀ x : q.1.shape.Idx,
      q.2 x = signOp (F := F) (arg3.view.read (Elt F) X3) (arg4.view.read (Elt F) X4) (q.1.emb x) := by
  unfold trip_k0_t1
  dsimp only
  intro q hq
  simp only [List.mem_cons, List.not_mem_nil, or_false] at hq
  rcases hq with rfl | rfl | rfl | rfl | rfl | rfl | rfl | rfl <;> intro x
  · have h := sign_tile (F := F) 7 k.val (by omega) (k0_off1_eq k) (k0_off9_eq k) (k0_off1_inb i k hc) (k0_off9_inb i k hc) x
      (arg3.view.read (Elt F) X3) (arg4.view.read (Elt F) X4)
    exact (congrFun (pay_sign7 _ _) x).trans h
  · have h := sign_tile (F := F) 6 k.val (by omega) (k0_off1_eq k) (k0_off8_eq k) (k0_off1_inb i k hc) (k0_off8_inb i k hc) x
      (arg3.view.read (Elt F) X3) (arg4.view.read (Elt F) X4)
    exact (congrFun (pay_sign6 _ _) x).trans h
  · have h := sign_tile (F := F) 5 k.val (by omega) (k0_off1_eq k) (k0_off7_eq k) (k0_off1_inb i k hc) (k0_off7_inb i k hc) x
      (arg3.view.read (Elt F) X3) (arg4.view.read (Elt F) X4)
    exact (congrFun (pay_sign5 _ _) x).trans h
  · have h := sign_tile (F := F) 4 k.val (by omega) (k0_off1_eq k) (k0_off6_eq k) (k0_off1_inb i k hc) (k0_off6_inb i k hc) x
      (arg3.view.read (Elt F) X3) (arg4.view.read (Elt F) X4)
    exact (congrFun (pay_sign4 _ _) x).trans h
  · have h := sign_tile (F := F) 3 k.val (by omega) (k0_off1_eq k) (k0_off5_eq k) (k0_off1_inb i k hc) (k0_off5_inb i k hc) x
      (arg3.view.read (Elt F) X3) (arg4.view.read (Elt F) X4)
    exact (congrFun (pay_sign3 _ _) x).trans h
  · have h := sign_tile (F := F) 2 k.val (by omega) (k0_off1_eq k) (k0_off4_eq k) (k0_off1_inb i k hc) (k0_off4_inb i k hc) x
      (arg3.view.read (Elt F) X3) (arg4.view.read (Elt F) X4)
    exact (congrFun (pay_sign2 _ _) x).trans h
  · have h := sign_tile (F := F) 1 k.val (by omega) (k0_off1_eq k) (k0_off3_eq k) (k0_off1_inb i k hc) (k0_off3_inb i k hc) x
      (arg3.view.read (Elt F) X3) (arg4.view.read (Elt F) X4)
    exact (congrFun (pay_sign1 _ _) x).trans h
  · have h := sign_tile (F := F) 0 k.val (by omega) (k0_off1_eq k) (k0_off2_eq k) (k0_off1_inb i k hc) (k0_off2_inb i k hc) x
      (arg3.view.read (Elt F) X3) (arg4.view.read (Elt F) X4)
    exact (congrFun (pay_sign0 _ _) x).trans h

/-- After the first `n` trips, every tile stored in either buffer agrees with its operand function. -/
theorem loop_pieces (n : Nat) (hn : n ≤ k0_t1_loop.trips) :
    (∀ q ∈ (pb_k0_t1 (F := F) 𝒱 c bd i arg2 harg2 arg3 harg3 arg4 harg4 arg5 harg5 arg6 harg6 arg7 harg7 arg8 harg8 arg9
        harg9 arg10 harg10 hc X3 X4 X5 n).1, ∀ x : q.1.shape.Idx,
      q.2 x = codeOp (F := F) (arg3.view.read (Elt F) X3) (arg5.view.read (Elt F) X5) (q.1.emb x))
    ∧ (∀ q ∈ (pb_k0_t1 (F := F) 𝒱 c bd i arg2 harg2 arg3 harg3 arg4 harg4 arg5 harg5 arg6 harg6 arg7 harg7 arg8 harg8 arg9
        harg9 arg10 harg10 hc X3 X4 X5 n).2, ∀ x : q.1.shape.Idx,
      q.2 x = signOp (F := F) (arg3.view.read (Elt F) X3) (arg4.view.read (Elt F) X4) (q.1.emb x)) := by
  induction n with
  | zero => exact ⟨fun q hq => absurd hq List.not_mem_nil, fun q hq => absurd hq List.not_mem_nil⟩
  | succ n ih =>
    have ih := ih (Nat.le_of_succ_le hn)
    have e := pb_k0_t1_succ (F := F) 𝒱 c bd i arg2 harg2 arg3 harg3 arg4 harg4 arg5 harg5 arg6 harg6 arg7 harg7 arg8 harg8
      arg9 harg9 arg10 harg10 hc X3 X4 X5 ⟨n, hn⟩
    have e' : pb_k0_t1 (F := F) 𝒱 c bd i arg2 harg2 arg3 harg3 arg4 harg4 arg5 harg5 arg6 harg6 arg7 harg7 arg8 harg8
      arg9 harg9 arg10 harg10 hc X3 X4 X5 (n + 1) = _ := e
    rw [e']
    refine ⟨fun q hq => ?_, fun q hq => ?_⟩
    · rcases List.mem_append.mp hq with hq | hq
      · exact trip_code 𝒱 c bd i arg2 harg2 arg3 harg3 arg4 harg4 arg5 harg5 arg6 harg6 arg7 harg7 arg8 harg8 arg9 harg9
          arg10 harg10 hc X3 X4 X5 ⟨n, hn⟩ q hq
      · exact ih.1 q hq
    · rcases List.mem_append.mp hq with hq | hq
      · exact trip_sign 𝒱 c bd i arg2 harg2 arg3 harg3 arg4 harg4 arg5 harg5 arg6 harg6 arg7 harg7 arg8 harg8 arg9 harg9
          arg10 harg10 hc X3 X4 X5 ⟨n, hn⟩ q hq
      · exact ih.2 q hq

end Loop

end Cert.Planes

end
-- ==== Proof.Points.lean ====
/-  What the body leaves at one grid point, as functions of the blocks it reads.

    At the first point of a group of eight the body decodes the weight block into the two operand buffers; at the other
    seven it finds them as the point before left them. At every point it then stores one block of the result, computed
    from the block of `x` and the two operands. -/
module

public import proofs.«01_k».proof.Proof.Trip
public import Idealize.ShloMosaic.Lib.Pipeline.Value
public import Idealize.ShloMosaic.Lib.WholeRead

@[expose] public section

set_option maxRecDepth 16384

noncomputable section

namespace Cert.Planes

open Idealize.ShloMosaic Idealize.ShloMosaic.TcCoe Cert.KernelIdeal Cert.KernelIdeal.Gen

variable {F : FTy → Type} [FloatOps F]

section Body

variable (c : Dev nD) (i : grid0.Coords)
  (arg2 : Memref sig .tc .vmem S1024x5120 .bf16) (harg2 : arg2.IsWhole) (arg3 : Memref sig .tc .vmem S512x640 .i8)
  (harg3 : arg3.IsWhole) (arg4 : Memref sig .tc .vmem S512x640 .i8) (harg4 : arg4.IsWhole)
  (arg5 : Memref sig .tc .vmem S512x5120 .i8) (harg5 : arg5.IsWhole) (arg6 : Memref sig .tc .vmem S1x512 .f32)
  (harg6 : arg6.IsWhole) (arg7 : Memref sig .tc .vmem S1x512 .f32) (harg7 : arg7.IsWhole)
  (arg8 : Memref sig .tc .vmem S1024x512 .bf16) (harg8 : arg8.IsWhole) (arg9 : Memref sig .tc .vmem S512x5120 .bf16)
  (harg9 : arg9.IsWhole) (arg10 : Memref sig .tc .vmem S512x5120 .bf16) (harg10 : arg10.IsWhole)
  (x0 : Vec F S1024x5120 .bf16) (x1 : Vec F S512x640 .i8) (x2 : Vec F S512x640 .i8) (x3 : Vec F S512x5120 .i8)
  (x4 : Vec F S1x512 .f32) (x5 : Vec F S1x512 .f32) (xs0 xs1 : Vec F S512x5120 .bf16)

/-- At a decoding point every tile stored into the first operand buffer agrees with `codeOp` of the point's blocks. -/
theorem run_code_pieces (hc : cond0_0 i) :
    ∀ q ∈ (kernelRun0_A (F := F) c i arg2 harg2 arg3 harg3 arg4 harg4 arg5 harg5 arg6 harg6 arg7 harg7 arg8 harg8 arg9 harg9
      arg10 harg10 hc x0 x1 x2 x3 x4 x5).2.1, ∀ x : q.1.shape.Idx, q.2 x = codeOp x1 x3 (q.1.emb x) := by
  have h := (loop_pieces (F := F) Variants.none c none i arg2 harg2 arg3 harg3 arg4 harg4 arg5 harg5 arg6 harg6 arg7 harg7
    arg8 harg8 arg9 harg9 arg10 harg10 hc (harg3.unread x1) (harg4.unread x2) (harg5.unread x3) k0_t1_loop.trips
    (Nat.le_refl _)).1
  rw [harg3.read_unread, harg5.read_unread] at h
  unfold kernelRun0_A
  exact h

/-- At a decoding point every tile stored into the second operand buffer agrees with `signOp` of the point's blocks. -/
theorem run_sign_pieces (hc : cond0_0 i) :
    ∀ q ∈ (kernelRun0_A (F := F) c i arg2 harg2 arg3 harg3 arg4 harg4 arg5 harg5 arg6 harg6 arg7 harg7 arg8 harg8 arg9 harg9
      arg10 harg10 hc x0 x1 x2 x3 x4 x5).2.2.1, ∀ x : q.1.shape.Idx, q.2 x = signOp x1 x2 (q.1.emb x) := by
  have h := (loop_pieces (F := F) Variants.none c none i arg2 harg2 arg3 harg3 arg4 harg4 arg5 harg5 arg6 harg6 arg7 harg7
    arg8 harg8 arg9 harg9 arg10 harg10 hc (harg3.unread x1) (harg4.unread x2) (harg5.unread x3) k0_t1_loop.trips
    (Nat.le_refl _)).2
  rw [harg3.read_unread, harg4.read_unread] at h
  unfold kernelRun0_A
  exact h

/-- A decoding point leaves the code operand of its weight block in the first operand buffer. -/
theorem sout_A_0 (hc : cond0_0 i) :
    sout0_A_0 (F := F) c i arg2 harg2 arg3 harg3 arg4 harg4 arg5 harg5 arg6 harg6 arg7 harg7 arg8 harg8 arg9 harg9
      arg10 harg10 hc x0 x1 x2 x3 x4 x5 = codeOp x1 x3 :=
  funext fun y => View.read_writes_apply_of_pieces VS0_0 VS0_0.junk (codeOp x1 x3) _
    (run_code_pieces c i arg2 harg2 arg3 harg3 arg4 harg4 arg5 harg5 arg6 harg6 arg7 harg7 arg8 harg8 arg9 harg9 arg10 harg10
      x0 x1 x2 x3 x4 x5 hc) y
    (scover0_A_0 c i arg2 harg2 arg3 harg3 arg4 harg4 arg5 harg5 arg6 harg6 arg7 harg7 arg8 harg8 arg9 harg9 arg10 harg10 hc
      x0 x1 x2 x3 x4 x5 y)

/-- A decoding point leaves the sign operand of its weight block in the second operand buffer. -/
theorem sout_A_1 (hc : cond0_0 i) :
    sout0_A_1 (F := F) c i arg2 harg2 arg3 harg3 arg4 harg4 arg5 harg5 arg6 harg6 arg7 harg7 arg8 harg8 arg9 harg9
      arg10 harg10 hc x0 x1 x2 x3 x4 x5 = signOp x1 x2 :=
  funext fun y => View.read_writes_apply_of_pieces VS0_1 VS0_1.junk (signOp x1 x2) _
    (run_sign_pieces c i arg2 harg2 arg3 harg3 arg4 harg4 arg5 harg5 arg6 harg6 arg7 harg7 arg8 harg8 arg9 harg9 arg10 harg10
      x0 x1 x2 x3 x4 x5 hc) y
    (scover0_A_1 c i arg2 harg2 arg3 harg3 arg4 harg4 arg5 harg5 arg6 harg6 arg7 harg7 arg8 harg8 arg9 harg9 arg10 harg10 hc
      x0 x1 x2 x3 x4 x5 y)

/-- The full box of a rank-two shape sends each index to itself. -/
theorem full_emb {n0 n1 : Nat} (inb : ∀ a, (![0, 0] : Fin 2 → Nat) a + (![n0, n1] : Fin 2 → Nat) a ≤ (⟨2, ![n0, n1]⟩ : Shape).size a)
    (y : (⟨2, ![n0, n1]⟩ : Shape).Idx) :
    (Rect.unit (s := (⟨2, ![n0, n1]⟩ : Shape)) ![0, 0] ![n0, n1] inb).emb y = y := by
  funext a
  match a with
  | ⟨0, _⟩ => exact Fin.ext (by show 0 + 1 * (y 0).val = (y 0).val; omega)
  | ⟨1, _⟩ => exact Fin.ext (by show 0 + 1 * (y 1).val = (y 1).val; omega)

/-- A load of a whole buffer that holds `X` is `X`. -/
theorem load_full {n0 n1 : Nat} {e : EltTy} (a : Memref sig .tc .vmem (⟨2, ![n0, n1]⟩ : Shape) e) (ha : a.IsWhole)
    (inb : ∀ a, (![0, 0] : Fin 2 → Nat) a + (![n0, n1] : Fin 2 → Nat) a ≤ (⟨2, ![n0, n1]⟩ : Shape).size a)
    (X : Vec F (⟨2, ![n0, n1]⟩ : Shape) e) :
    View.readAt (Elt F) a.view (Rect.unit (s := (⟨2, ![n0, n1]⟩ : Shape)) ![0, 0] ![n0, n1] inb).toLoadRect (ha.unread X) = X :=
  funext fun z => (ha.readAt_unread _ _ _).trans (congrArg X (full_emb inb z))

/-- A load of a whole buffer after stores that cover it and all agree with `G` is `G`. -/
theorem load_pieces {n0 n1 : Nat} {e : EltTy} (a : Memref sig .tc .vmem (⟨2, ![n0, n1]⟩ : Shape) e)
    (inb : ∀ a, (![0, 0] : Fin 2 → Nat) a + (![n0, n1] : Fin 2 → Nat) a ≤ (⟨2, ![n0, n1]⟩ : Shape).size a)
    (G : Vec F (⟨2, ![n0, n1]⟩ : Shape) e) (L : List (View.Piece (Elt F) (⟨2, ![n0, n1]⟩ : Shape) e))
    (hG : ∀ q ∈ L, ∀ x : q.1.shape.Idx, q.2 x = G (q.1.emb x)) (hL : ∀ y, ∃ q ∈ L, y ∈ q.1.set) :
    a.view.readCov L (Rect.unit (s := (⟨2, ![n0, n1]⟩ : Shape)) ![0, 0] ![n0, n1] inb).toLoadRect = G :=
  funext fun z => (View.read_writes_apply_of_pieces a.view a.view.junk G L hG _ (hL _)).trans (congrArg G (full_emb inb z))

/-- The result block of a point that does not decode, from the operands it finds. -/
theorem out_B_6 (hc : ¬ cond0_0 i) :
    out0_B_6 (F := F) c i arg2 harg2 arg3 harg3 arg4 harg4 arg5 harg5 arg6 harg6 arg7 harg7 arg8 harg8 arg9 harg9
      arg10 harg10 hc x0 x1 x2 x3 x4 x5 xs0 xs1 = k0_pay4 x0 xs0 xs1 x4 x5 := by
  funext y
  refine View.read_writes_apply_of_pieces VO0_6 VO0_6.junk (k0_pay4 x0 xs0 xs1 x4 x5) _ ?_ y
    (cover0_B_6 c i arg2 harg2 arg3 harg3 arg4 harg4 arg5 harg5 arg6 harg6 arg7 harg7 arg8 harg8 arg9 harg9 arg10 harg10 hc
      x0 x1 x2 x3 x4 x5 xs0 xs1 y)
  unfold kernelRun0_B
  dsimp only
  intro q hq
  simp only [List.mem_cons, List.not_mem_nil, or_false] at hq
  subst hq
  intro x
  dsimp only
  rw [load_full arg2 harg2, load_full arg6 harg6, load_full arg7 harg7, load_full arg9 harg9, load_full arg10 harg10]
  exact congrArg (k0_pay4 x0 xs0 xs1 x4 x5) (full_emb inb_S1024x512_S1024x512_0_0 x).symm

/-- The result block of a decoding point, from the operands it has just decoded. -/
theorem out_A_6 (hc : cond0_0 i) :
    out0_A_6 (F := F) c i arg2 harg2 arg3 harg3 arg4 harg4 arg5 harg5 arg6 harg6 arg7 harg7 arg8 harg8 arg9 harg9
      arg10 harg10 hc x0 x1 x2 x3 x4 x5 = k0_pay4 x0 (codeOp x1 x3) (signOp x1 x2) x4 x5 := by
  funext y
  refine View.read_writes_apply_of_pieces VO0_6 VO0_6.junk (k0_pay4 x0 (codeOp x1 x3) (signOp x1 x2) x4 x5) _ ?_ y
    (cover0_A_6 c i arg2 harg2 arg3 harg3 arg4 harg4 arg5 harg5 arg6 harg6 arg7 harg7 arg8 harg8 arg9 harg9 arg10 harg10 hc
      x0 x1 x2 x3 x4 x5 y)
  have h0 := run_code_pieces (F := F) c i arg2 harg2 arg3 harg3 arg4 harg4 arg5 harg5 arg6 harg6 arg7 harg7 arg8 harg8 arg9
    harg9 arg10 harg10 x0 x1 x2 x3 x4 x5 hc
  have h1 := run_sign_pieces (F := F) c i arg2 harg2 arg3 harg3 arg4 harg4 arg5 harg5 arg6 harg6 arg7 harg7 arg8 harg8 arg9
    harg9 arg10 harg10 x0 x1 x2 x3 x4 x5 hc
  have c0 := scover0_A_0 (F := F) c i arg2 harg2 arg3 harg3 arg4 harg4 arg5 harg5 arg6 harg6 arg7 harg7 arg8 harg8 arg9 harg9
    arg10 harg10 hc x0 x1 x2 x3 x4 x5
  have c1 := scover0_A_1 (F := F) c i arg2 harg2 arg3 harg3 arg4 harg4 arg5 harg5 arg6 harg6 arg7 harg7 arg8 harg8 arg9 harg9
    arg10 harg10 hc x0 x1 x2 x3 x4 x5
  unfold kernelRun0_A at h0 h1 c0 c1 ⊢
  dsimp only at h0 h1 c0 c1 ⊢
  intro q hq
  simp only [List.mem_cons, List.not_mem_nil, or_false] at hq
  subst hq
  intro x
  dsimp only
  rw [load_full arg2 harg2, load_full arg6 harg6, load_full arg7 harg7, load_pieces arg9 _ _ _ h0 c0,
    load_pieces arg10 _ _ _ h1 c1]
  exact congrArg (k0_pay4 x0 (codeOp x1 x3) (signOp x1 x2) x4 x5) (full_emb inb_S1024x512_S1024x512_0_0 x).symm

end Body

end Cert.Planes

end
-- ==== Proof.Carry.lean ====
/-  What every grid point leaves, in terms of the whole arrays.

    Point `t` of the grid works on rows `512 (t / 8) …` of the weight and rows `1024 (t % 8) …` of `x`. The two operand
    buffers are filled at the first point of a group of eight and kept for the other seven, whose weight block is the same:
    so after every point they hold the decoded weight block of that point, and the result block is the product of the
    point's own blocks. -/
module

public import proofs.«01_k».proof.Proof.Points
public import proofs.«01_k».proof.Proof.Gen.KernelIdeal.Frame

@[expose] public section

set_option maxRecDepth 16384

noncomputable section

namespace Cert.Planes

open Idealize.ShloMosaic Idealize.ShloMosaic.TcCoe Cert.KernelIdeal Cert.KernelIdeal.Gen

variable {F : FTy → Type} [FloatOps F]

/-- Block row `r` of a packed plane array: its rows `512 r …`. -/
def planeBlk {e : EltTy} (A : Vec F S27648x640 e) (r : Fin 54) : Vec F S512x640 e := fun y =>
  A (ValueIdx.ix2 ⟨r.val * 512 + (y 0).val, by have : (y 0).val < 512 := (y 0).isLt; omega⟩ (y 1))

/-- Block row `r` of the code array: its rows `512 r …`. -/
def codeBlk {e : EltTy} (A : Vec F S27648x5120 e) (r : Fin 54) : Vec F S512x5120 e := fun y =>
  A (ValueIdx.ix2 ⟨r.val * 512 + (y 0).val, by have : (y 0).val < 512 := (y 0).isLt; omega⟩ (y 1))

/-- Block row `r` of `x`: its rows `1024 r …`. -/
def xBlk {e : EltTy} (A : Vec F S8192x5120 e) (r : Fin 8) : Vec F S1024x5120 e := fun y =>
  A (ValueIdx.ix2 ⟨r.val * 1024 + (y 0).val, by have : (y 0).val < 1024 := (y 0).isLt; omega⟩ (y 1))

/-- Block `r` of a row of per-channel scales: its columns `512 r …`. -/
def scaleBlk {e : EltTy} (A : Vec F S1x27648 e) (r : Fin 54) : Vec F S1x512 e := fun y =>
  A (ValueIdx.ix2 (y 0) ⟨r.val * 512 + (y 1).val, by have : (y 1).val < 512 := (y 1).isLt; omega⟩)

/-- The weight block row of point `n`. -/
def wRow (n : ℕ) (h : n < cfg0.N) : Fin 54 := ⟨n / 8, by have : n < 432 := lt_of_lt_of_eq h N_0; omega⟩
/-- The block row of `x` of point `n`. -/
def xRow (n : ℕ) : Fin 8 := ⟨n % 8, by omega⟩

/-- The index maps of the windows: the block each names at each point. -/
theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val / 8 ∧ win0_1.index t (1 : Fin 2) = 0 :=
  (by decide +kernel : ∀ t : Fin grid0.N, _)
theorem idx2 : ∀ t : Fin cfg0.N, win0_2.index t (0 : Fin 2) = t.val / 8 ∧ win0_2.index t (1 : Fin 2) = 0 :=
  (by decide +kernel : ∀ t : Fin grid0.N, _)
theorem idx3 : ∀ t : Fin cfg0.N, win0_3.index t (0 : Fin 2) = t.val / 8 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val / 8 :=
  (by decide +kernel : ∀ t : Fin grid0.N, _)
theorem idx5 : ∀ t : Fin cfg0.N, win0_5.index t (0 : Fin 2) = 0 ∧ win0_5.index t (1 : Fin 2) = t.val / 8 :=
  (by decide +kernel : ∀ t : Fin grid0.N, _)
theorem idx6 : ∀ t : Fin cfg0.N, win0_6.index t (0 : Fin 2) = t.val % 8 ∧ win0_6.index t (1 : Fin 2) = t.val / 8 :=
  (by decide +kernel : ∀ t : Fin grid0.N, _)

variable (m : (ℓ : Loc nD τ sig) → Buf (Elt F) ℓ)

/-- The block of `x` a point reads. -/
theorem iblk0_eq (c : Dev nD) (t : Fin cfg0.N) : iblk m c 0 t = xBlk (V m c main_v0) (xRow t.val) := by
  funext y
  have h0 : (((cfg0.win 0).blk t).view.emb y 0).val = win0_0.index t (0 : Fin 2) * 1024 + 1 * (y 0).val := rfl
  have h1 : (((cfg0.win 0).blk t).view.emb y 1).val = win0_0.index t (1 : Fin 2) * 5120 + 1 * (y 1).val := rfl
  obtain ⟨e0, e1⟩ := idx0 t
  rw [e0] at h0; rw [e1] at h1
  refine congrArg (V m c main_v0) (a₁ := ((cfg0.win 0).blk t).view.emb y) (funext fun a => Fin.ext ?_)
  match a with
  | ⟨0, _⟩ => exact h0.trans (by show _ = t.val % 8 * 1024 + (y 0).val; omega)
  | ⟨1, _⟩ => exact h1.trans (by show _ = (y 1).val; omega)

/-- The mask block a point reads. -/
theorem iblk1_eq (c : Dev nD) (t : Fin cfg0.N) : iblk m c 1 t = planeBlk (V m c main_arg1) (wRow t.val t.isLt) := by
  funext y
  have h0 : (((cfg0.win 1).blk t).view.emb y 0).val = win0_1.index t (0 : Fin 2) * 512 + 1 * (y 0).val := rfl
  have h1 : (((cfg0.win 1).blk t).view.emb y 1).val = win0_1.index t (1 : Fin 2) * 640 + 1 * (y 1).val := rfl
  obtain ⟨e0, e1⟩ := idx1 t
  rw [e0] at h0; rw [e1] at h1
  refine congrArg (V m c main_arg1) (a₁ := ((cfg0.win 1).blk t).view.emb y) (funext fun a => Fin.ext ?_)
  match a with
  | ⟨0, _⟩ => exact h0.trans (by show _ = t.val / 8 * 512 + (y 0).val; omega)
  | ⟨1, _⟩ => exact h1.trans (by show _ = (y 1).val; omega)

/-- The sign block a point reads. -/
theorem iblk2_eq (c : Dev nD) (t : Fin cfg0.N) : iblk m c 2 t = planeBlk (V m c main_arg2) (wRow t.val t.isLt) := by
  funext y
  have h0 : (((cfg0.win 2).blk t).view.emb y 0).val = win0_2.index t (0 : Fin 2) * 512 + 1 * (y 0).val := rfl
  have h1 : (((cfg0.win 2).blk t).view.emb y 1).val = win0_2.index t (1 : Fin 2) * 640 + 1 * (y 1).val := rfl
  obtain ⟨e0, e1⟩ := idx2 t
  rw [e0] at h0; rw [e1] at h1
  refine congrArg (V m c main_arg2) (a₁ := ((cfg0.win 2).blk t).view.emb y) (funext fun a => Fin.ext ?_)
  match a with
  | ⟨0, _⟩ => exact h0.trans (by show _ = t.val / 8 * 512 + (y 0).val; omega)
  | ⟨1, _⟩ => exact h1.trans (by show _ = (y 1).val; omega)

/-- The code block a point reads. -/
theorem iblk3_eq (c : Dev nD) (t : Fin cfg0.N) : iblk m c 3 t = codeBlk (V m c main_arg3) (wRow t.val t.isLt) := by
  funext y
  have h0 : (((cfg0.win 3).blk t).view.emb y 0).val = win0_3.index t (0 : Fin 2) * 512 + 1 * (y 0).val := rfl
  have h1 : (((cfg0.win 3).blk t).view.emb y 1).val = win0_3.index t (1 : Fin 2) * 5120 + 1 * (y 1).val := rfl
  obtain ⟨e0, e1⟩ := idx3 t
  rw [e0] at h0; rw [e1] at h1
  refine congrArg (V m c main_arg3) (a₁ := ((cfg0.win 3).blk t).view.emb y) (funext fun a => Fin.ext ?_)
  match a with
  | ⟨0, _⟩ => exact h0.trans (by show _ = t.val / 8 * 512 + (y 0).val; omega)
  | ⟨1, _⟩ => exact h1.trans (by show _ = (y 1).val; omega)

/-- The block of dense scales a point reads. -/
theorem iblk4_eq (c : Dev nD) (t : Fin cfg0.N) : iblk m c 4 t = scaleBlk (V m c main_v1) (wRow t.val t.isLt) := by
  funext y
  have h0 : (((cfg0.win 4).blk t).view.emb y 0).val = win0_4.index t (0 : Fin 2) * 1 + 1 * (y 0).val := rfl
  have h1 : (((cfg0.win 4).blk t).view.emb y 1).val = win0_4.index t (1 : Fin 2) * 512 + 1 * (y 1).val := rfl
  obtain ⟨e0, e1⟩ := idx4 t
  rw [e0] at h0; rw [e1] at h1
  refine congrArg (V m c main_v1) (a₁ := ((cfg0.win 4).blk t).view.emb y) (funext fun a => Fin.ext ?_)
  match a with
  | ⟨0, _⟩ => exact h0.trans (by show _ = (y 0).val; omega)
  | ⟨1, _⟩ => exact h1.trans (by show _ = t.val / 8 * 512 + (y 1).val; omega)

/-- The block of binary scales a point reads. -/
theorem iblk5_eq (c : Dev nD) (t : Fin cfg0.N) : iblk m c 5 t = scaleBlk (V m c main_v2) (wRow t.val t.isLt) := by
  funext y
  have h0 : (((cfg0.win 5).blk t).view.emb y 0).val = win0_5.index t (0 : Fin 2) * 1 + 1 * (y 0).val := rfl
  have h1 : (((cfg0.win 5).blk t).view.emb y 1).val = win0_5.index t (1 : Fin 2) * 512 + 1 * (y 1).val := rfl
  obtain ⟨e0, e1⟩ := idx5 t
  rw [e0] at h0; rw [e1] at h1
  refine congrArg (V m c main_v2) (a₁ := ((cfg0.win 5).blk t).view.emb y) (funext fun a => Fin.ext ?_)
  match a with
  | ⟨0, _⟩ => exact h0.trans (by show _ = (y 0).val; omega)
  | ⟨1, _⟩ => exact h1.trans (by show _ = t.val / 8 * 512 + (y 1).val; omega)

/-- The decoded code operand of block row `r`. -/
abbrev codeRow (c : Dev nD) (r : Fin 54) : Vec F S512x5120 .bf16 :=
  codeOp (planeBlk (V m c main_arg1) r) (codeBlk (V m c main_arg3) r)
/-- The decoded sign operand of block row `r`. -/
abbrev signRow (c : Dev nD) (r : Fin 54) : Vec F S512x5120 .bf16 :=
  signOp (planeBlk (V m c main_arg1) r) (planeBlk (V m c main_arg2) r)

/-- The first point of a group of eight leaves the decoded weight block of its block row in the two operand buffers. -/
theorem carried_first (c : Dev nD) (t : Fin cfg0.N) (h0 : t.val % 8 = 0) :
    (outsAt0 m c t.val t.isLt).2.1 = codeRow m c (wRow t.val t.isLt)
      ∧ (outsAt0 m c t.val t.isLt).2.2 = signRow m c (wRow t.val t.isLt) := by
  rw [outsAt0_A m c t h0]
  dsimp only
  rw [sout_A_0, sout_A_1, iblk1_eq, iblk2_eq, iblk3_eq]
  exact ⟨rfl, rfl⟩

/-- After every point the two operand buffers hold the decoded weight block of that point's block row. -/
theorem carried (c : Dev nD) : ∀ (n : ℕ) (h : n < cfg0.N),
    (outsAt0 m c n h).2.1 = codeRow m c (wRow n h) ∧ (outsAt0 m c n h).2.2 = signRow m c (wRow n h) := by
  intro n
  induction n with
  | zero =>
    intro h
    exact carried_first m c ⟨0, h⟩ rfl
  | succ n ih =>
    intro h
    by_cases h0 : (n + 1) % 8 = 0
    · exact carried_first m c ⟨n + 1, h⟩ h0
    · have e := outsAt0_B m c ⟨n + 1, h⟩ h0
      have hr : wRow n (by omega) = wRow (n + 1) h := Fin.ext (by show n / 8 = (n + 1) / 8; omega)
      obtain ⟨i0, i1⟩ := ih (by omega)
      rw [hr] at i0 i1
      exact ⟨(congrArg (fun p => p.2.1) e).trans i0, (congrArg (fun p => p.2.2) e).trans i1⟩

/-- The block a point stores into the result, from the whole arrays. -/
theorem stored (c : Dev nD) (t : Fin cfg0.N) :
    (outsAt0 m c t.val t.isLt).1
      = k0_pay4 (xBlk (V m c main_v0) (xRow t.val)) (codeRow m c (wRow t.val t.isLt)) (signRow m c (wRow t.val t.isLt))
          (scaleBlk (V m c main_v1) (wRow t.val t.isLt)) (scaleBlk (V m c main_v2) (wRow t.val t.isLt)) := by
  by_cases h0 : t.val % 8 = 0
  · rw [outsAt0_A m c t h0]
    dsimp only
    rw [out_A_6, iblk0_eq, iblk1_eq, iblk2_eq, iblk3_eq, iblk4_eq, iblk5_eq]
  · have ht : t.val - 1 < cfg0.N := by omega
    have hr : wRow (t.val - 1) ht = wRow t.val t.isLt := Fin.ext (by show (t.val - 1) / 8 = t.val / 8; omega)
    obtain ⟨i0, i1⟩ := carried m c (t.val - 1) ht
    rw [hr] at i0 i1
    rw [outsAt0_B m c t h0]
    dsimp only
    rw [out_B_6, iblk0_eq, iblk4_eq, iblk5_eq, i0, i1]

end Cert.Planes

end
-- ==== Proof.Spec.lean ====
/-  The result both programs compute over the extended reals, as one formula of the six arguments.

    A weight entry `(n, k)` lies in plane `k / 640` at packed position `k % 640`. Its mask bit selects the signed code of
    the entry; where the bit is clear the entry is `+1` or `-1` by its sign bit. The result at token `(b, t)` and channel
    `n` is `s n` times the product of the token with the selected codes, plus `alpha n` times the product of the token with
    the signs. -/
module

public import proofs.«01_k».proof.Proof.Words
public import Idealize.ShloMosaic.Lib.Pointwise

@[expose] public section

noncomputable section

namespace Cert.Planes

open Idealize.ShloMosaic
open scoped BigOperators

/-- The packed position of a weight column. -/
def packedCol (k : Fin 5120) : Fin 640 := ⟨k.val % 640, Nat.mod_lt _ (by omega)⟩

/-- The selected code of weight entry `(n, k)`: its code where the mask bit is set, else 0. -/
def codeAt (M : Vec Ideal ⟨2, ![27648, 640]⟩ .i8) (Q : Vec Ideal ⟨2, ![27648, 5120]⟩ .i8) (n : Fin 27648) (k : Fin 5120) :
    EReal :=
  (((codeByte (k.val / 640) (M (ix2 n (packedCol k))) (Q (ix2 n k))).toInt : ℝ) : EReal)

/-- The sign of weight entry `(n, k)`: 0 where the mask bit is set, else `+1` or `-1`. -/
def signAt (M S : Vec Ideal ⟨2, ![27648, 640]⟩ .i8) (n : Fin 27648) (k : Fin 5120) : EReal :=
  (((signByte (k.val / 640) (M (ix2 n (packedCol k))) (S (ix2 n (packedCol k)))).toInt : ℝ) : EReal)

/-- The result at token `(b, t)` and channel `n`. -/
def valueAt (x : Vec Ideal ⟨3, ![2, 4096, 5120]⟩ .bf16) (M S : Vec Ideal ⟨2, ![27648, 640]⟩ .i8)
    (Q : Vec Ideal ⟨2, ![27648, 5120]⟩ .i8) (s a : Vec Ideal ⟨1, ![27648]⟩ .f32) (b : Fin 2) (t : Fin 4096) (n : Fin 27648) :
    EReal :=
  s (ix1 n) * (∑ k : Fin 5120, x (ix3 b t k) * codeAt M Q n k)
    + a (ix1 n) * (∑ k : Fin 5120, x (ix3 b t k) * signAt M S n k)

/-- The whole result. -/
def value (x : Vec Ideal ⟨3, ![2, 4096, 5120]⟩ .bf16) (M S : Vec Ideal ⟨2, ![27648, 640]⟩ .i8)
    (Q : Vec Ideal ⟨2, ![27648, 5120]⟩ .i8) (s a : Vec Ideal ⟨1, ![27648]⟩ .f32) :
    Vec Ideal ⟨3, ![2, 4096, 27648]⟩ .bf16 := fun i => valueAt x M S Q s a (i 0) (i 1) (i 2)

end Cert.Planes

end
-- ==== Proof.Final.lean ====
/-  The kernel's result over the extended reals.

    The blocks the grid points store tile the result array, so the array ends at the product computed block by block;
    the two reshapes around the grid only renumber tokens. The result is `value` of the arguments. -/
module

public import proofs.«01_k».proof.Proof.Carry
public import proofs.«01_k».proof.Proof.Spec

@[expose] public section

set_option maxRecDepth 16384

noncomputable section

namespace Cert.Planes

open Idealize.ShloMosaic Idealize.ShloMosaic.TcCoe Cert.KernelIdeal Cert.KernelIdeal.Gen Idealize.SL.Sem
open scoped BigOperators

section AnyFloat

variable {F : FTy → Type} [FloatOps F] (m : (ℓ : Loc nD τ sig) → Buf (Elt F) ℓ)

/-- The result block of block row `r` of `x` and block row `w` of the weight. -/
def blockOut (c : Dev nD) (r : Fin 8) (w : Fin 54) : Vec F S1024x512 .bf16 :=
  k0_pay4 (xBlk (V m c main_v0) r) (codeRow m c w) (signRow m c w) (scaleBlk (V m c main_v1) w) (scaleBlk (V m c main_v2) w)

/-- The result array, block by block. -/
def arrayOut (c : Dev nD) : Buf (Elt F) ((c : Thread nD τ).loc main_v3) := fun i =>
  blockOut m c ⟨(i 0).val / 1024, by have : (i 0).val < 8192 := (i 0).isLt; omega⟩
    ⟨(i 1).val / 512, by have : (i 1).val < 27648 := (i 1).isLt; omega⟩
    (ix2 ⟨(i 0).val % 1024, Nat.mod_lt _ (by omega)⟩ ⟨(i 1).val % 512, Nat.mod_lt _ (by omega)⟩)

/-- What point `t` writes back is its block of `arrayOut`. -/
theorem flushed_eq (c : Dev nD) (t : Fin cfg0.N) :
    (dats m 0 c).flushed 6 t = ((cfg0.win 6).blk t).view.read (Elt F) (arrayOut m c) := by
  show (cfg0.win 6).cut (grid0.coords t) ((dats m 0 c).after 6 t) = _
  rw [after0_6, stored]
  obtain ⟨e0, e1⟩ := idx6 t
  have ht : t.val < 432 := lt_of_lt_of_eq t.isLt N_0
  funext y
  have hy0 : (y 0).val < 1024 := (y 0).isLt
  have hy1 : (y 1).val < 512 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 512 + 1 * (y 1).val := rfl
  rw [e0] at hb0; rw [e1] at hb1
  show blockOut m c (xRow t.val) (wRow t.val t.isLt) ((cfg0.win 6).xinj (grid0.coords t) y)
    = arrayOut m c (((cfg0.win 6).blk t).view.emb y)
  unfold arrayOut
  have hr : (⟨(((cfg0.win 6).blk t).view.emb y 0).val / 1024, by omega⟩ : Fin 8) = xRow t.val :=
    Fin.ext (by show (((cfg0.win 6).blk t).view.emb y 0).val / 1024 = t.val % 8; omega)
  have hw : (⟨(((cfg0.win 6).blk t).view.emb y 1).val / 512, by omega⟩ : Fin 54) = wRow t.val t.isLt :=
    Fin.ext (by show (((cfg0.win 6).blk t).view.emb y 1).val / 512 = t.val / 8; omega)
  have hl : (ix2 ⟨(((cfg0.win 6).blk t).view.emb y 0).val % 1024, Nat.mod_lt _ (by omega)⟩
      ⟨(((cfg0.win 6).blk t).view.emb y 1).val % 512, Nat.mod_lt _ (by omega)⟩ : S1024x512.Idx)
      = (cfg0.win 6).xinj (grid0.coords t) y := by
    funext a; apply Fin.ext
    match a with
    | ⟨0, _⟩ => show (((cfg0.win 6).blk t).view.emb y 0).val % 1024 = (y 0).val; omega
    | ⟨1, _⟩ => show (((cfg0.win 6).blk t).view.emb y 1).val % 512 = (y 1).val; omega
  rw [hr, hw, hl]

/-- Every index of the result array lies in some point's block. -/
theorem covered (i : S8192x27648.Idx) : ∃ t : Fin cfg0.N, (cfg0.win 6).flush t = true ∧ i ∈ ((cfg0.win 6).blk t).view.set := by
  have hi0 : (i 0).val < 8192 := (i 0).isLt
  have hi1 : (i 1).val < 27648 := (i 1).isLt
  let t : Fin cfg0.N := ⟨(i 0).val / 1024 + 8 * ((i 1).val / 512), lt_of_lt_of_eq (by omega) N_0.symm⟩
  obtain ⟨e0, e1⟩ := idx6 t
  have q0 : win0_6.index t (0 : Fin 2) = (i 0).val / 1024 := e0.trans (by
    show ((i 0).val / 1024 + 8 * ((i 1).val / 512)) % 8 = _; omega)
  have q1 : win0_6.index t (1 : Fin 2) = (i 1).val / 512 := e1.trans (by
    show ((i 0).val / 1024 + 8 * ((i 1).val / 512)) / 8 = _; omega)
  refine ⟨t, flush0_6 t, ?_⟩
  show i ∈ ((View.whole main_v3).slice (win0_6.rect t)).set
  rw [View.set_slice_whole, Rect.mem_set_unit]
  show ∀ a : Fin 2, win0_6.index t a * S1024x512.size a ≤ (i a).val ∧ (i a).val < win0_6.index t a * S1024x512.size a + S1024x512.size a
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 512 ≤ (i 1).val ∧ (i 1).val < win0_6.index t (1 : Fin 2) * 512 + 512; omega

/-- The result array after the grid. -/
theorem final (c : Dev nD) : (dats m 0 c).arrAt 6 cfg0.N = arrayOut m c :=
  (dats m 0 c).arrAt_eq_of_cover 6 _ (fun t _ => flushed_eq m c t) covered

/-- The grid reads `x` with its two token axes merged. -/
theorem V_main_v0 (c : Dev nD) :
    V m c main_v0 = shapeCast S8192x5120 (m ((c : Thread nD τ).loc main_arg0)) shapeCasts_S2x4096x5120_S8192x5120 := by
  unfold V V0
  simp only [hostOps0, List.flatten_cons, List.flatten_nil, List.append_nil]
  after_results <;> rfl
/-- The grid reads the dense scales as one row. -/
theorem V_main_v1 (c : Dev nD) :
    V m c main_v1 = shapeCast S1x27648 (m ((c : Thread nD τ).loc main_arg4)) shapeCasts_S27648_S1x27648 := by
  unfold V V0
  simp only [hostOps0, List.flatten_cons, List.flatten_nil, List.append_nil]
  after_results <;> rfl
/-- The grid reads the binary scales as one row. -/
theorem V_main_v2 (c : Dev nD) :
    V m c main_v2 = shapeCast S1x27648 (m ((c : Thread nD τ).loc main_arg5)) shapeCasts_S27648_S1x27648 := by
  unfold V V0
  simp only [hostOps0, List.flatten_cons, List.flatten_nil, List.append_nil]
  after_results <;> rfl

/-- After the grid the result array is reshaped to two token axes. -/
theorem W_main_v4 (c : Dev nD) :
    Pipeline.afterTail₀ cfgs (dats m) 0 (V0 m) [hostOps1] c main_v4
      = shapeCast S2x4096x27648 (arrayOut m c) shapeCasts_S8192x27648_S2x4096x27648 := by
  unfold Pipeline.afterTail₀
  simp only [hostOps1, List.flatten_cons, List.flatten_nil, List.append_nil]
  after_results
  exact congrArg (fun A => shapeCast S2x4096x27648 A shapeCasts_S8192x27648_S2x4096x27648)
    ((Pipeline.withArrays_arr spec0 launch0.win.arr_inj c (V0 m c) _ 6).trans (final m c))

end AnyFloat

variable (m : (ℓ : Loc nD τ sig) → Buf (Elt Ideal) ℓ)

/-- A stored block over the extended reals, read at an index. -/
theorem pay_apply (x : Vec Ideal S1024x5120 .bf16) (a b : Vec Ideal S512x5120 .bf16) (s al : Vec Ideal S1x512 .f32)
    (p : Fin 1024) (q : Fin 512) :
    k0_pay4 x a b s al (ix2 p q)
      = s (ix2 0 q) * (∑ k : Fin 5120, x (ix2 p k) * a (ix2 q k)) + al (ix2 0 q) * (∑ k : Fin 5120, x (ix2 p k) * b (ix2 q k)) := by
  pointwise [k0_pay4]

/-- The decoded code operand over the extended reals is `codeAt`. -/
theorem codeRow_apply (c : Dev nD) (w : Fin 54) (q : Fin 512) (k : Fin 5120) :
    codeRow m c w (ix2 q k) = codeAt (m ((c : Thread nD τ).loc main_arg1)) (m ((c : Thread nD τ).loc main_arg3))
      ⟨w.val * 512 + q.val, by omega⟩ k := by
  rw [← V_main_arg1 m c, ← V_main_arg3 m c]
  rfl

/-- The decoded sign operand over the extended reals is `signAt`. -/
theorem signRow_apply (c : Dev nD) (w : Fin 54) (q : Fin 512) (k : Fin 5120) :
    signRow m c w (ix2 q k) = signAt (m ((c : Thread nD τ).loc main_arg1)) (m ((c : Thread nD τ).loc main_arg2))
      ⟨w.val * 512 + q.val, by omega⟩ k := by
  rw [← V_main_arg1 m c, ← V_main_arg2 m c]
  rfl

/-- Reshaping rows into two token axes reads row `4096 b + t` at token `(b, t)`. -/
theorem split_tokens (v : Vec Ideal S8192x27648 .bf16) (b : Fin 2) (t : Fin 4096) (n : Fin 27648) :
    shapeCast S2x4096x27648 v shapeCasts_S8192x27648_S2x4096x27648 (ix3 b t n) = v (ix2 ⟨b.val * 4096 + t.val, by omega⟩ n) := by
  pointwise

/-- Merging the two token axes reads token `(r / 4096, r % 4096)` at row `r`. -/
theorem merge_tokens (v : Vec Ideal S2x4096x5120 .bf16) (r : Fin 8192) (k : Fin 5120) :
    shapeCast S8192x5120 v shapeCasts_S2x4096x5120_S8192x5120 (ix2 r k)
      = v (ix3 ⟨r.val / 4096, by omega⟩ ⟨r.val % 4096, by omega⟩ k) := by
  pointwise

/-- A vector of scales read as one row. -/
theorem row_scales (v : Vec Ideal S27648 .f32) (n : Fin 27648) :
    shapeCast S1x27648 v shapeCasts_S27648_S1x27648 (ix2 0 n) = v (ix1 n) := by
  pointwise

/-- The kernel's result is the formula of its arguments. -/
theorem result_eq (c : Dev nD) :
    shapeCast S2x4096x27648 (arrayOut m c) shapeCasts_S8192x27648_S2x4096x27648
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, t, n, rfl⟩ : ∃ (b : Fin 2) (t : Fin 4096) (n : Fin 27648), i = ix3 b t n := ⟨i 0, i 1, i 2, eq_ix3 i⟩
  refine (split_tokens (arrayOut m c) b t n).trans ?_
  show blockOut m c ⟨(b.val * 4096 + t.val) / 1024, by omega⟩ ⟨n.val / 512, by omega⟩
      (ix2 ⟨(b.val * 4096 + t.val) % 1024, by omega⟩ ⟨n.val % 512, by omega⟩)
    = valueAt _ _ _ _ _ _ b t n
  unfold blockOut
  rw [pay_apply]
  have hn : (⟨n.val / 512 * 512 + n.val % 512, by omega⟩ : Fin 27648) = n := Fin.ext (by show n.val / 512 * 512 + n.val % 512 = n.val; omega)
  have hx : ∀ k : Fin 5120, xBlk (V m c main_v0) ⟨(b.val * 4096 + t.val) / 1024, by omega⟩
      (ix2 ⟨(b.val * 4096 + t.val) % 1024, by omega⟩ k) = m ((c : Thread nD τ).loc main_arg0) (ix3 b t k) := by
    intro k
    rw [V_main_v0]
    refine (merge_tokens (m ((c : Thread nD τ).loc main_arg0))
      ⟨(b.val * 4096 + t.val) / 1024 * 1024 + (b.val * 4096 + t.val) % 1024, by omega⟩ k).trans ?_
    have h0 : (⟨((b.val * 4096 + t.val) / 1024 * 1024 + (b.val * 4096 + t.val) % 1024) / 4096, by omega⟩ : Fin 2) = b :=
      Fin.ext (by show ((b.val * 4096 + t.val) / 1024 * 1024 + (b.val * 4096 + t.val) % 1024) / 4096 = b.val; omega)
    have h1 : (⟨((b.val * 4096 + t.val) / 1024 * 1024 + (b.val * 4096 + t.val) % 1024) % 4096, by omega⟩ : Fin 4096) = t :=
      Fin.ext (by show ((b.val * 4096 + t.val) / 1024 * 1024 + (b.val * 4096 + t.val) % 1024) % 4096 = t.val; omega)
    exact congrArg (m ((c : Thread nD τ).loc main_arg0)) (congrArg₂ (fun u v => ix3 u v k) h0 h1)
  have hs : scaleBlk (V m c main_v1) ⟨n.val / 512, by omega⟩ (ix2 0 ⟨n.val % 512, by omega⟩)
      = m ((c : Thread nD τ).loc main_arg4) (ix1 n) := by
    rw [V_main_v1]
    exact (row_scales (m ((c : Thread nD τ).loc main_arg4)) ⟨n.val / 512 * 512 + n.val % 512, by omega⟩).trans
      (congrArg (fun u => m ((c : Thread nD τ).loc main_arg4) (ix1 u)) hn)
  have ha : scaleBlk (V m c main_v2) ⟨n.val / 512, by omega⟩ (ix2 0 ⟨n.val % 512, by omega⟩)
      = m ((c : Thread nD τ).loc main_arg5) (ix1 n) := by
    rw [V_main_v2]
    exact (row_scales (m ((c : Thread nD τ).loc main_arg5)) ⟨n.val / 512 * 512 + n.val % 512, by omega⟩).trans
      (congrArg (fun u => m ((c : Thread nD τ).loc main_arg5) (ix1 u)) hn)
  have hq : ∀ k : Fin 5120, codeRow m c ⟨n.val / 512, by omega⟩ (ix2 ⟨n.val % 512, by omega⟩ k)
      = codeAt (m ((c : Thread nD τ).loc main_arg1)) (m ((c : Thread nD τ).loc main_arg3)) n k := fun k =>
    (codeRow_apply m c ⟨n.val / 512, by omega⟩ ⟨n.val % 512, by omega⟩ k).trans
      (congrArg (fun u => codeAt (m ((c : Thread nD τ).loc main_arg1)) (m ((c : Thread nD τ).loc main_arg3)) u k) hn)
  have hg : ∀ k : Fin 5120, signRow m c ⟨n.val / 512, by omega⟩ (ix2 ⟨n.val % 512, by omega⟩ k)
      = signAt (m ((c : Thread nD τ).loc main_arg1)) (m ((c : Thread nD τ).loc main_arg2)) n k := fun k =>
    (signRow_apply m c ⟨n.val / 512, by omega⟩ ⟨n.val % 512, by omega⟩ k).trans
      (congrArg (fun u => signAt (m ((c : Thread nD τ).loc main_arg1)) (m ((c : Thread nD τ).loc main_arg2)) u k) hn)
  rw [hs, ha]
  simp only [hx, hq, hg]
  rfl

end Cert.Planes

end
-- ==== Proof.RefValue.lean ====
/-  The reference's result over the extended reals, read at an index.

    The reference unpacks the planes with 32-bit shifts, selects codes and signs with masks, and contracts the token with
    both weights over plane and packed position. Re-indexed by the flat weight column, its result is `value`. -/
module

public import proofs.«01_k».proof.Proof.Spec
public import proofs.«01_k».proof.Proof.Gen.ReferenceIdeal.Run

@[expose] public section

set_option maxRecDepth 16384

noncomputable section

namespace Cert.Planes

open Idealize.ShloMosaic Cert.ReferenceIdeal Cert.ReferenceIdeal.Gen
open scoped BigOperators

/-- Bit `j` of every packed byte, as the reference computes it, compared with 1. -/
def refBit (P : Vec Ideal S27648x640 .i8) : IVec S27648x8x640 1 :=
  cmpi .eq (andi (Host.shrsi (broadcastInDim S27648x8x640 ![0, 1, 2] bcast_S27648x1x640_S27648x8x640_0_1_2 (broadcastInDim S27648x1x640 ![0, 2] bcast_S27648x640_S27648x1x640_0_2 (extui 32 P natLt_8_32))) (broadcastInDim S27648x8x640 ![0, 1, 2] bcast_S1x8x1_S27648x8x640_0_1_2 (broadcastInDim S1x8x1 ![1] bcast_S8_S1x8x1_1 (iotaInDim S8 32 0)))) (broadcastInDim S27648x8x640 ![] bcast_S_S27648x8x640 (constantI S_ 32 1#32))) (broadcastInDim S27648x8x640 ![] bcast_S_S27648x8x640 (constantI S_ 32 1#32))

/-- The reference's selected codes. -/
def refCode (M : Vec Ideal S27648x640 .i8) (Q : Vec Ideal S27648x5120 .i8) : FVec Ideal S27648x8x640 .bf16 :=
  sitofp .bf16 (extsi 32 (select (refBit M) (shapeCast _ Q shapeCasts_S27648x5120_S27648x8x640) (broadcastInDim S27648x8x640 ![] bcast_S_S27648x8x640 (constantI S_ 8 0#8))) natLt_8_32)

/-- The reference's signs. -/
def refSign (M S : Vec Ideal S27648x640 .i8) : FVec Ideal S27648x8x640 .bf16 :=
  truncf .bf16 (select (refBit M) (broadcastInDim S27648x8x640 ![] bcast_S_S27648x8x640 (constant (F := Ideal) S_ .f32 0x00000000#32)) (select (refBit S) (broadcastInDim S27648x8x640 ![] bcast_S_S27648x8x640 (constant S_ .f32 0x3F800000#32)) (broadcastInDim S27648x8x640 ![] bcast_S_S27648x8x640 (constant S_ .f32 0xBF800000#32)))) bitsLt_bf16_f32

/-- The reference's result, as one term of the six arguments. -/
def refResult (x : Vec Ideal S2x4096x5120 .bf16) (M S : Vec Ideal S27648x640 .i8) (Q : Vec Ideal S27648x5120 .i8)
    (s a : Vec Ideal S27648 .f32) : FVec Ideal S2x4096x27648 .bf16 :=
  truncf .bf16 (addf (mulf (broadcastInDim S2x4096x27648 ![0, 1, 2] bcast_S1x1x27648_S2x4096x27648_0_1_2 (broadcastInDim S1x1x27648 ![2] bcast_S27648_S1x1x27648_2 s)) (Host.dotGeneral (φ₁ := .bf16) (φ₂ := .bf16) dot_S2x4096x8x640_S27648x8x640_S2x4096x27648_32_21_01_0_n_n none (shapeCast _ x shapeCasts_S2x4096x5120_S2x4096x8x640) (refCode M Q))) (mulf (broadcastInDim S2x4096x27648 ![0, 1, 2] bcast_S1x1x27648_S2x4096x27648_0_1_2 (broadcastInDim S1x1x27648 ![2] bcast_S27648_S1x1x27648_2 a)) (Host.dotGeneral (φ₁ := .bf16) (φ₂ := .bf16) dot_S2x4096x8x640_S27648x8x640_S2x4096x27648_32_21_01_0_n_n none (shapeCast _ x shapeCasts_S2x4096x5120_S2x4096x8x640) (refSign M S)))) bitsLt_bf16_f32

/-- Shifting a byte right by `j` in 32 bits, keeping the last bit and comparing with 1 gives bit `j` of the byte. -/
theorem bit_word : ∀ (j : Fin 8) (w : BitVec 8),
    IntOp.cmpi CmpIPredicate.eq (IntOp.andi (IntOp.shrsi ArithUnit.host (BitVec.setWidth 32 w) (BitVec.ofNat 32 j.val)) 1#32) 1#32
      = BitVec.ofBool (w.getLsbD j.val) := by decide +kernel

/-- The reference's unpacked bit at row `n`, plane `j`, packed position `q` is bit `j` of the packed byte. -/
theorem refBit_apply (P : Vec Ideal S27648x640 .i8) (n : Fin 27648) (j : Fin 8) (q : Fin 640) :
    refBit P (ix3 n j q) = BitVec.ofBool (BitVec.getLsbD (w := 8) (P (ix2 n q)) j.val) := by
  pointwise [refBit]
  exact bit_word j (P (ix2 n q))

/-- The flat weight column of packed position `q` in plane `j`. -/
def flatCol (j : Fin 8) (q : Fin 640) : Fin 5120 := ⟨j.val * 640 + q.val, by omega⟩

theorem flatCol_plane (j : Fin 8) (q : Fin 640) : (flatCol j q).val / 640 = j.val := by
  show (j.val * 640 + q.val) / 640 = j.val
  omega

theorem flatCol_packed (j : Fin 8) (q : Fin 640) : packedCol (flatCol j q) = q :=
  Fin.ext (by show (j.val * 640 + q.val) % 640 = q.val; omega)

/-- A select on a bit is an `if` on it. -/
theorem select_bit {α : Type} (p : Bool) (a b : α) : Scalar.select (BitVec.ofBool p) a b = if p then a else b := by
  cases p <;> rfl

/-- Widening a byte to 32 bits with its sign keeps the integer it stands for. -/
theorem toInt_widen (w : BitVec 8) : (BitVec.signExtend 32 w).toInt = w.toInt :=
  BitVec.toInt_signExtend_of_le (by decide)

/-- The reference's selected code is `codeAt`. -/
theorem refCode_apply (M : Vec Ideal S27648x640 .i8) (Q : Vec Ideal S27648x5120 .i8) (n : Fin 27648) (j : Fin 8) (q : Fin 640) :
    refCode M Q (ix3 n j q) = codeAt M Q n (flatCol j q) := by
  unfold codeAt
  rw [flatCol_plane, flatCol_packed]
  pointwise [refCode]
  rw [refBit_apply, select_bit]
  exact congrArg (fun z : ℤ => ((z : ℝ) : EReal)) (toInt_widen _)

/-- The word `0xBF800000` is the real -1. -/
theorem ofBits_neg_one_f32 : Ideal.ofBits .f32 0xBF800000#32 = ((-1 : ℝ) : EReal) := by
  simp [Ideal.ofBits, Ideal.ieee, -EReal.coe_mul, -EReal.coe_neg]; norm_num

/-- The reference's sign is `signAt`. -/
theorem refSign_apply (M S : Vec Ideal S27648x640 .i8) (n : Fin 27648) (j : Fin 8) (q : Fin 640) :
    refSign M S (ix3 n j q) = signAt M S n (flatCol j q) := by
  unfold signAt signByte
  rw [flatCol_plane, flatCol_packed]
  pointwise [refSign]
  rw [refBit_apply, refBit_apply, select_bit, select_bit, ofBits_neg_one_f32]
  cases BitVec.getLsbD (w := 8) (M (ix2 n q)) j.val
  · cases BitVec.getLsbD (w := 8) (S (ix2 n q)) j.val
    · show ((-1 : ℝ) : EReal) = (((255#8 : BitVec 8).toInt : ℝ) : EReal)
      rw [show (255#8 : BitVec 8).toInt = -1 from by decide]; norm_num
    · show (1 : EReal) = (((1#8 : BitVec 8).toInt : ℝ) : EReal)
      rw [show (1#8 : BitVec 8).toInt = 1 from by decide]; norm_num
  · show (0 : EReal) = (((0#8 : BitVec 8).toInt : ℝ) : EReal)
    rw [show (0#8 : BitVec 8).toInt = 0 from by decide]; norm_num

/-- A sum over packed position and plane is the sum over the flat weight column. -/
theorem sum_flat (f : Fin 5120 → EReal) : (∑ q : Fin 640, ∑ j : Fin 8, f (flatCol j q)) = ∑ k : Fin 5120, f k := by
  rw [Finset.sum_comm, ← Fintype.sum_prod_type' (fun (j : Fin 8) (q : Fin 640) => f (flatCol j q)),
    ← Equiv.sum_comp (finProdFinEquiv (m := 8) (n := 640)) f]
  refine Finset.sum_congr rfl fun p _ => congrArg f (Fin.ext ?_)
  show p.1.val * 640 + p.2.val = p.2.val + 640 * p.1.val
  omega

/-- The reference's result at an index is the formula. -/
theorem refResult_apply (x : Vec Ideal S2x4096x5120 .bf16) (M S : Vec Ideal S27648x640 .i8) (Q : Vec Ideal S27648x5120 .i8)
    (s a : Vec Ideal S27648 .f32) (b : Fin 2) (t : Fin 4096) (n : Fin 27648) :
    refResult x M S Q s a (ix3 b t n) = valueAt x M S Q s a b t n := by
  pointwise [refResult]
  simp only [refCode_apply, refSign_apply]
  exact congrArg₂ (· + ·) (congrArg (s (ix1 n) * ·) (sum_flat fun k => x (ix3 b t k) * codeAt M Q n k))
    (congrArg (a (ix1 n) * ·) (sum_flat fun k => x (ix3 b t k) * signAt M S n k))

/-- The reference's result is the formula. -/
theorem refResult_eq (x : Vec Ideal S2x4096x5120 .bf16) (M S : Vec Ideal S27648x640 .i8) (Q : Vec Ideal S27648x5120 .i8)
    (s a : Vec Ideal S27648 .f32) : refResult x M S Q s a = value x M S Q s a :=
  funext fun i => (congrArg (refResult x M S Q s a) (eq_ix3 i)).trans (refResult_apply x M S Q s a (i 0) (i 1) (i 2))

end Cert.Planes

end
-- ==== Proof.lean ====
/- The five claims about the kernel and its reference.

   The kernel, its idealized form and the reference each run to completion with their arguments unchanged and every
   semaphore counter at zero; idealizing the kernel replaces no operation; and over the extended reals the kernel and the
   reference compute the same result, the formula `Cert.Planes.value` of the arguments. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel over the extended reals ends with the formula in its result and its arguments unchanged. -/
theorem kernel_run (m : (ℓ : Loc KernelIdeal.nD KernelIdeal.τ KernelIdeal.sig) → Buf (Elt Ideal) ℓ)
    (g : Dev KernelIdeal.nD → PrngReg) :
    θ_run KernelIdeal.defs (onTc (τ := KernelIdeal.τ) (KernelIdeal.main (F := Ideal))) ⟨m, fun _ => 0, g⟩ (fun r => ∀ c : Dev KernelIdeal.nD,
      r.2.mem (c.tc.loc KernelIdeal.main_v4)
        = Planes.value (m (c.tc.loc KernelIdeal.main_arg0)) (m (c.tc.loc KernelIdeal.main_arg1)) (m (c.tc.loc KernelIdeal.main_arg2))
            (m (c.tc.loc KernelIdeal.main_arg3)) (m (c.tc.loc KernelIdeal.main_arg4)) (m (c.tc.loc KernelIdeal.main_arg5))) :=
  (θ_run KernelIdeal.defs _ _).mono
    (fun _ h c => ((h c).2 KernelIdeal.main_v4 (Pipeline.mem_restRefs_of KernelIdeal.main_v4 (by decide) (by decide))).trans
      ((Planes.W_main_v4 m c).trans (Planes.result_eq m c)))
    (KernelIdeal.Gen.run_main m g)

/-- The reference over the extended reals ends with the formula in its result and its arguments unchanged. -/
theorem reference_run (m : (ℓ : Loc ReferenceIdeal.nD ReferenceIdeal.τ ReferenceIdeal.sig) → Buf (Elt Ideal) ℓ)
    (g : Dev ReferenceIdeal.nD → PrngReg) :
    θ_run ReferenceIdeal.defs (onTc (τ := ReferenceIdeal.τ) (ReferenceIdeal.main (F := Ideal))) ⟨m, fun _ => 0, g⟩ (fun r => ∀ c : Dev ReferenceIdeal.nD,
      r.2.mem (c.tc.loc ReferenceIdeal.main_v39)
        = Planes.value (m (c.tc.loc ReferenceIdeal.main_arg0)) (m (c.tc.loc ReferenceIdeal.main_arg1)) (m (c.tc.loc ReferenceIdeal.main_arg2))
            (m (c.tc.loc ReferenceIdeal.main_arg3)) (m (c.tc.loc ReferenceIdeal.main_arg4)) (m (c.tc.loc ReferenceIdeal.main_arg5))
      ∧ r.2.mem (c.tc.loc ReferenceIdeal.main_arg0) = m (c.tc.loc ReferenceIdeal.main_arg0)
      ∧ r.2.mem (c.tc.loc ReferenceIdeal.main_arg1) = m (c.tc.loc ReferenceIdeal.main_arg1)
      ∧ r.2.mem (c.tc.loc ReferenceIdeal.main_arg2) = m (c.tc.loc ReferenceIdeal.main_arg2)
      ∧ r.2.mem (c.tc.loc ReferenceIdeal.main_arg3) = m (c.tc.loc ReferenceIdeal.main_arg3)
      ∧ r.2.mem (c.tc.loc ReferenceIdeal.main_arg4) = m (c.tc.loc ReferenceIdeal.main_arg4)
      ∧ r.2.mem (c.tc.loc ReferenceIdeal.main_arg5) = m (c.tc.loc ReferenceIdeal.main_arg5)) :=
  (θ_run ReferenceIdeal.defs _ _).mono
    (fun _ h c => ⟨(h c).1.trans (Planes.refResult_eq (m (c.tc.loc ReferenceIdeal.main_arg0)) (m (c.tc.loc ReferenceIdeal.main_arg1))
      (m (c.tc.loc ReferenceIdeal.main_arg2)) (m (c.tc.loc ReferenceIdeal.main_arg3)) (m (c.tc.loc ReferenceIdeal.main_arg4))
      (m (c.tc.loc ReferenceIdeal.main_arg5))), (h c).2⟩)
    (ReferenceIdeal.Value.run m g)

/-- The reference runs to completion with its arguments unchanged; it declares no semaphore. -/
theorem frame_reference : Cert.quiescent_ReferenceIdeal := by
  intro m g _
  exact (θ_run ReferenceIdeal.defs _ _).mono
    (fun r h => ⟨fun c => (h c).2, sem_eq_zero_of_no_sems (by decide) r.2⟩) (reference_run m g)

/-- From memories that agree on the arguments, the kernel and the reference end with equal results over the extended
    reals, both with their arguments unchanged. -/
theorem algebraic : Cert.algebraic_KernelIdeal_ReferenceIdeal := by
  intro m g m' g' _ hagree
  refine ⟨fun c => Planes.value (m (c.tc.loc KernelIdeal.main_arg0)) (m (c.tc.loc KernelIdeal.main_arg1)) (m (c.tc.loc KernelIdeal.main_arg2))
    (m (c.tc.loc KernelIdeal.main_arg3)) (m (c.tc.loc KernelIdeal.main_arg4)) (m (c.tc.loc KernelIdeal.main_arg5)), ?_, ?_⟩
  · exact (θ_run KernelIdeal.defs _ _).mono (fun _ h c => ⟨h.1 c, h.2 c⟩)
      (θ_run_and (kernel_run m g) (KernelIdeal.Gen.unchanged m g))
  · refine (θ_run ReferenceIdeal.defs _ _).mono (fun _ h c => ⟨(h c).1.trans ?_, (h c).2⟩) (reference_run m' g')
    obtain ⟨e0, e1, e2, e3, e4, e5⟩ := hagree c
    rw [e0, e1, e2, e3, e4, e5]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
